-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Packed (m : (ℓ : Loc Cert.Packed.nD Cert.Packed.τ Cert.Packed.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Packed [hPacked : Cert.Packed.Facts] : Prop :=
  ∀ (m : (ℓ : Loc Cert.Packed.nD Cert.Packed.τ Cert.Packed.sig) → Buf (Elt Bits) ℓ) (g : Dev Cert.Packed.nD → PrngReg), Pre_Packed m →
    θ_run (Cert.Packed.defs (F := Bits)) (onTc (τ := Cert.Packed.τ) (Cert.Packed.main (F := Bits))) ⟨m, fun _ => 0, g⟩ (fun r => (∀ c : Dev Cert.Packed.nD,
      r.2.mem ((c.tc : Thread Cert.Packed.nD Cert.Packed.τ).loc Cert.Packed.main_arg0) = m ((c.tc : Thread Cert.Packed.nD Cert.Packed.τ).loc Cert.Packed.main_arg0)
      ∧ r.2.mem ((c.tc : Thread Cert.Packed.nD Cert.Packed.τ).loc Cert.Packed.main_arg1) = m ((c.tc : Thread Cert.Packed.nD Cert.Packed.τ).loc Cert.Packed.main_arg1))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPacked : Cert.Packed.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ quiescent_Packed (hPacked := hPacked)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048x2047 : Shape := ⟨3, ![8, 2048, 2047]⟩

class Facts : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  slices_S8x2048x2048_S8x2048x2047_0_0_1 : S8x2048x2048.Slices ![0, 0, 1] S8x2048x2047
  slices_S8x2048x2048_S8x2048x2047_0_0_0 : S8x2048x2048.Slices ![0, 0, 0] S8x2048x2047

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S8x2048x2048 .f32) : FVec F S8x2048x2048 .f32 :=
  let v0 : FVec F S8x2048x2048 .f32 := (fun x => Host.sort S8x2048x2048 2 comparator_f32_d2 x) arg0
  v0

def fn {F : FTy → Type} [FloatOps F] (main_arg0 : FVec F S8x2048x3 .f32) (main_arg1 : FVec F S8x2048x3 .f32) : IVec S8x2048x2047 1 :=
  let main_v0 : FVec F S8x2048x1x3 .f32 := broadcastInDim S8x2048x1x3 ![0, 1, 3] bcast_S8x2048x3_S8x2048x1x3_0_1_3 main_arg0
  let main_v1 : FVec F S8x1x2048x3 .f32 := broadcastInDim S8x1x2048x3 ![0, 2, 3] bcast_S8x2048x3_S8x1x2048x3_0_2_3 main_arg1
  let main_v2 : FVec F S8x2048x2048x3 .f32 := broadcastInDim S8x2048x2048x3 ![0, 1, 2, 3] bcast_S8x2048x1x3_S8x2048x2048x3_0_1_2_3 main_v0
  let main_v3 : FVec F S8x2048x2048x3 .f32 := broadcastInDim S8x2048x2048x3 ![0, 1, 2, 3] bcast_S8x1x2048x3_S8x2048x2048x3_0_1_2_3 main_v1
  let main_v4 : FVec F S8x2048x2048x3 .f32 := subf main_v2 main_v3
  let main_v5 : FVec F S8x2048x2048x3 .f32 := mulf main_v4 main_v4
  let main_cst : FVec F S_ .f32 := constant S_ .f32 0x00000000#32
  let main_v6 : FVec F S8x2048x2048 .f32 := (fun x v => Host.reduceAdd x v reducesTo_S8x2048x2048x3_S8x2048x2048_d3 h_S_) main_v5 main_cst
  let main_v7 : FVec F S8x2048x2048 .f32 := fn_sort (F := F) main_v6
  let main_v8 : FVec F S8x2048x2047 .f32 := (extractStridedSlice S8x2048x2047 ![0, 0, 1] · slices_S8x2048x2048_S8x2048x2047_0_0_1) main_v7
  let main_v9 : FVec F S8x2048x2047 .f32 := (extractStridedSlice S8x2048x2047 ![0, 0, 0] · slices_S8x2048x2048_S8x2048x2047_0_0_0) main_v7
  let main_v10 : IVec S8x2048x2047 1 := cmpf .une main_v8 main_v9
  main_v10
-- ==== Kernel.lean ====
abbrev S8x2048x3 : Shape := ⟨3, ![8, 2048, 3]⟩
abbrev S8x2048x1 : Shape := ⟨3, ![8, 2048, 1]⟩
abbrev S8x2048 : Shape := ⟨2, ![8, 2048]⟩
abbrev S2048x8 : Shape := ⟨2, ![2048, 8]⟩
abbrev S2048x8x1 : Shape := ⟨3, ![2048, 8, 1]⟩
abbrev S2048x8x128 : Shape := ⟨3, ![2048, 8, 128]⟩
abbrev S8x16x128 : Shape := ⟨3, ![8, 16, 128]⟩
abbrev S16x8x128 : Shape := ⟨3, ![16, 8, 128]⟩
abbrev S1x1 : Shape := ⟨2, ![1, 1]⟩
abbrev S1x8x128 : Shape := ⟨3, ![1, 8, 128]⟩
abbrev S8x128 : Shape := ⟨2, ![8, 128]⟩
abbrev S1x8x1 : Shape := ⟨3, ![1, 8, 1]⟩
abbrev S8x1 : Shape := ⟨2, ![8, 1]⟩
abbrev S8 : Shape := ⟨1, ![8]⟩
abbrev S1 : Shape := ⟨1, ![1]⟩
abbrev S1x1x1 : Shape := ⟨3, ![1, 1, 1]⟩

abbrev nBuf : Space → Nat
  | .hbm => 30
  | .vmem => 9
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1, .f32⟩
  | .hbm, ⟨3, _⟩ => ⟨S8x2048, .f32⟩
  | .hbm, ⟨4, _⟩ => ⟨S2048x8, .f32⟩
  | .hbm, ⟨5, _⟩ => ⟨S2048x8x1, .f32⟩
  | .hbm, ⟨6, _⟩ => ⟨S2048x8x128, .f32⟩
  | .hbm, ⟨7, _⟩ => ⟨S8x2048x1, .f32⟩
  | .hbm, ⟨8, _⟩ => ⟨S8x2048, .f32⟩
  | .hbm, ⟨9, _⟩ => ⟨S2048x8, .f32⟩
  | .hbm, ⟨10, _⟩ => ⟨S2048x8x1, .f32⟩
  | .hbm, ⟨11, _⟩ => ⟨S2048x8x128, .f32⟩
  | .hbm, ⟨12, _⟩ => ⟨S8x2048x1, .f32⟩
  | .hbm, ⟨13, _⟩ => ⟨S8x2048, .f32⟩
  | .hbm, ⟨14, _⟩ => ⟨S2048x8, .f32⟩
  | .hbm, ⟨15, _⟩ => ⟨S2048x8x1, .f32⟩
  | .hbm, ⟨16, _⟩ => ⟨S2048x8x128, .f32⟩
  | .hbm, ⟨17, _⟩ => ⟨S8x2048x1, .f32⟩
  | .hbm, ⟨18, _⟩ => ⟨S8x2048, .f32⟩
  | .hbm, ⟨19, _⟩ => ⟨S8x16x128, .f32⟩
  | .hbm, ⟨20, _⟩ => ⟨S16x8x128, .f32⟩
  | .hbm, ⟨21, _⟩ => ⟨S8x2048x1, .f32⟩
  | .hbm, ⟨22, _⟩ => ⟨S8x2048, .f32⟩
  | .hbm, ⟨23, _⟩ => ⟨S8x16x128, .f32⟩
  | .hbm, ⟨24, _⟩ => ⟨S16x8x128, .f32⟩
  | .hbm, ⟨25, _⟩ => ⟨S8x2048x1, .f32⟩
  | .hbm, ⟨26, _⟩ => ⟨S8x2048, .f32⟩
  | .hbm, ⟨27, _⟩ => ⟨S8x16x128, .f32⟩
  | .hbm, ⟨28, _⟩ => ⟨S16x8x128, .f32⟩
  | .hbm, ⟨29, _⟩ => ⟨S1x1, .f32⟩
  | .local _ .vmem, ⟨0, _⟩ => ⟨S2048x8x128, .f32⟩
  | .local _ .vmem, ⟨1, _⟩ => ⟨S2048x8x128, .f32⟩
  | .local _ .vmem, ⟨2, _⟩ => ⟨S2048x8x128, .f32⟩
  | .local _ .vmem, ⟨3, _⟩ => ⟨S16x8x128, .f32⟩
  | .local _ .vmem, ⟨4, _⟩ => ⟨S16x8x128, .f32⟩
  | .local _ .vmem, ⟨5, _⟩ => ⟨S16x8x128, .f32⟩
  | .local _ .vmem, ⟨6, _⟩ => ⟨S1x1, .f32⟩
  | .local _ .vmem, ⟨7, _⟩ => ⟨S16x8x128, .f32⟩
  | .local _ .vmem, ⟨8, _⟩ => ⟨S16x8x128, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v93 : BitVec 32 := Scalar.addi c0_i32 c2048_i32
  let c1_i32 : BitVec 32 := 1#32
  ⟨c0_i32, v93, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let c1_i32_44 : BitVec 32 := 1#32
  let v115 : BitVec 32 := Scalar.addi arg9 c1_i32_44
  let c2047_i32 : BitVec 32 := 2047#32
  let v116 : BitVec 32 := Scalar.minsi v115 c2047_i32
  let v117 : Index := Scalar.indexCast v116
  let c0_45 : Index := 0#32
  let c0_46 : Index := 0#32
  ![v117.toNat, 0, 0]
abbrev stage0_0 : Fin 1 → Memref sig .tc .vmem S2048x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S2048 : Shape := ⟨1, ![2048]⟩
abbrev S8x2048 : Shape := ⟨2, ![8, 2048]⟩
abbrev S2048x8x2048 : Shape := ⟨3, ![2048, 8, 2048]⟩
abbrev S2048x8 : Shape := ⟨2, ![2048, 8]⟩
abbrev S1x8x2048 : Shape := ⟨3, ![1, 8, 2048]⟩
abbrev S8 : Shape := ⟨1, ![8]⟩
abbrev S8x1 : Shape := ⟨2, ![8, 1]⟩
abbrev S1x2048 : Shape := ⟨2, ![1, 2048]⟩
abbrev S1x8 : Shape := ⟨2, ![1, 8]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1x3, .f32⟩
  | .hbm, ⟨3, _⟩ => ⟨S8x1x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S8x2048x2048x3, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048, .i1⟩
  | .hbm, ⟨13, _⟩ => ⟨S8x2048, .i1⟩
  | .hbm, ⟨14, _⟩ => ⟨S2048x8x2048, .f32⟩
  | .hbm, ⟨15, _⟩ => ⟨S_, .f32⟩
  | .hbm, ⟨16, _⟩ => ⟨S2048x8, .f32⟩
  | .hbm, ⟨17, _⟩ => ⟨S_, .i32⟩
  | .hbm, ⟨18, _⟩ => ⟨S2048x8x2048, .f32⟩
  | .hbm, ⟨19, _⟩ => ⟨S_, .i32⟩
  | .hbm, ⟨20, _⟩ => ⟨S8x2048, .i1⟩
  | .hbm, ⟨21, _⟩ => ⟨S2048x8, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x8x2048, .f32⟩
  | .hbm, ⟨27, _⟩ => ⟨S8x2048, .f32⟩
  | .hbm, ⟨28, _⟩ => ⟨S_, .f32⟩
  | .hbm, ⟨29, _⟩ => ⟨S_, .f32⟩
  | .hbm, ⟨30, _⟩ => ⟨S2048, .f32⟩
  | .hbm, ⟨31, _⟩ => ⟨S8x2048, .f32⟩
  | .hbm, ⟨32, _⟩ => ⟨S8x2048, .f32⟩
  | .hbm, ⟨33, _⟩ => ⟨S_, .f32⟩
  | .hbm, ⟨34, _⟩ => ⟨S8, .f32⟩
  | .hbm, ⟨35, _⟩ => ⟨S8x1, .f32⟩
  | .hbm, ⟨36, _⟩ => ⟨S8x2048, .f32⟩
  | .hbm, ⟨37, _⟩ => ⟨S8x2048, .i1⟩
  | .hbm, ⟨38, _⟩ => ⟨S2048, .i32⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S8x2048, .i32⟩
  | .hbm, ⟨43, _⟩ => ⟨S8x2048, .i32⟩
  | .hbm, ⟨44, _⟩ => ⟨S8x2048, .i32⟩
  | .hbm, ⟨45, _⟩ => ⟨S_, .i32⟩
  | .hbm, ⟨46, _⟩ => ⟨S8, .i32⟩
  | .hbm, ⟨47, _⟩ => ⟨S2048, .i32⟩
  | .hbm, ⟨48, _⟩ => ⟨S1x2048, .i32⟩
  | .hbm, ⟨49, _⟩ => ⟨S8x1, .i32⟩
  | .hbm, ⟨50, _⟩ => ⟨S8x2048, .i32⟩
  | .hbm, ⟨51, _⟩ => ⟨S8x2048, .i32⟩
  | .hbm, ⟨52, _⟩ => ⟨S8x2048, .i1⟩
  | .hbm, ⟨53, _⟩ => ⟨S8x2048, .i1⟩
  | .hbm, ⟨54, _⟩ => ⟨S1x8, .f32⟩
  | .hbm, ⟨55, _⟩ => ⟨S_, .i32⟩
  | .hbm, ⟨56, _⟩ => ⟨S2048x8, .f32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1x1, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_c_1 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_while0c_c_9 : Ref sig .tc := ⟨.hbm, 22, rfl⟩
abbrev main_while0c_v19 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v19 : Ref sig .tc := ⟨.hbm, 27, rfl⟩
abbrev main_while0b_cst_9 : Ref sig .tc := ⟨.hbm, 28, rfl⟩
abbrev main_while0b_call1_v0 : Ref sig .tc := ⟨.hbm, 29, rfl⟩
abbrev main_while0b_call1_v1 : Ref sig .tc := ⟨.hbm, 30, rfl⟩
abbrev main_while0b_call1_v2 : Ref sig .tc := ⟨.hbm, 31, rfl⟩
abbrev main_while0b_v20 : Ref sig .tc := ⟨.hbm, 32, rfl⟩
abbrev main_while0b_cst_10 : Ref sig .tc := ⟨.hbm, 33, rfl⟩
abbrev main_while0b_v21 : Ref sig .tc := ⟨.hbm, 34, rfl⟩
abbrev main_while0b_v22 : Ref sig .tc := ⟨.hbm, 35, rfl⟩
abbrev main_while0b_v23 : Ref sig .tc := ⟨.hbm, 36, rfl⟩
abbrev main_while0b_v24 : Ref sig .tc := ⟨.hbm, 37, rfl⟩
abbrev main_while0b_v25 : Ref sig .tc := ⟨.hbm, 38, rfl⟩
abbrev main_while0b_c_11 : Ref sig .tc := ⟨.hbm, 39, rfl⟩
abbrev main_while0b_call2_v0 : Ref sig .tc := ⟨.hbm, 40, rfl⟩
abbrev main_while0b_call2_v1 : Ref sig .tc := ⟨.hbm, 41, rfl⟩
abbrev main_while0b_call2_v2 : Ref sig .tc := ⟨.hbm, 42, rfl⟩
abbrev main_while0b_call2_v3 : Ref sig .tc := ⟨.hbm, 43, rfl⟩
abbrev main_while0b_v26 : Ref sig .tc := ⟨.hbm, 44, rfl⟩
abbrev main_while0b_c_12 : Ref sig .tc := ⟨.hbm, 45, rfl⟩
abbrev main_while0b_v27 : Ref sig .tc := ⟨.hbm, 46, rfl⟩
abbrev main_while0b_v28 : Ref sig .tc := ⟨.hbm, 47, rfl⟩
abbrev main_while0b_v29 : Ref sig .tc := ⟨.hbm, 48, rfl⟩
abbrev main_while0b_v30 : Ref sig .tc := ⟨.hbm, 49, rfl⟩
abbrev main_while0b_v31 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_call3_v0 : Ref sig .tc := ⟨.hbm, 54, rfl⟩
abbrev main_while0b_call3_c : Ref sig .tc := ⟨.hbm, 55, rfl⟩
abbrev main_while0b_v35 : Ref sig .tc := ⟨.hbm, 56, rfl⟩
abbrev main_while0b_c_13 : Ref sig .tc := ⟨.hbm, 57, rfl⟩
abbrev main_while0b_v36 : Ref sig .tc := ⟨.hbm, 58, rfl⟩
abbrev main_cst_2 : Ref sig .tc := ⟨.hbm, 59, rfl⟩
abbrev main_v13 : Ref sig .tc := ⟨.hbm, 60, rfl⟩
abbrev main_cst_3 : Ref sig .tc := ⟨.hbm, 61, rfl⟩
abbrev main_v14 : Ref sig .tc := ⟨.hbm, 62, rfl⟩
abbrev main_v15 : Ref sig .tc := ⟨.hbm, 63, rfl⟩
abbrev main_cst_4 : Ref sig .tc := ⟨.hbm, 64, rfl⟩
abbrev main_v16 : Ref sig .tc := ⟨.hbm, 65, rfl⟩
abbrev main_cst_5 : Ref sig .tc := ⟨.hbm, 66, rfl⟩
abbrev main_v17 : Ref sig .tc := ⟨.hbm, 67, rfl⟩
abbrev main_v18 : Ref sig .tc := ⟨.hbm, 68, rfl⟩

abbrev nD : Nat := 1
abbrev τ : Topo := Topo.v7x

variable {F : FTy → Type} [FloatOps F]

abbrev main_while0_count : Scf.Loop 32 := ⟨0#32, 2048#32, 1#32⟩
-- ==== Packed.lean ====
abbrev S8x2048x3 : Shape := ⟨3, ![8, 2048, 3]⟩
abbrev S8x2048x1 : Shape := ⟨3, ![8, 2048, 1]⟩
abbrev S8x2048 : Shape := ⟨2, ![8, 2048]⟩
abbrev S2048x8 : Shape := ⟨2, ![2048, 8]⟩
abbrev S2048x8x1 : Shape := ⟨3, ![2048, 8, 1]⟩
abbrev S2048x8x128 : Shape := ⟨3, ![2048, 8, 128]⟩
abbrev S8x16x128 : Shape := ⟨3, ![8, 16, 128]⟩
abbrev S16x8x128 : Shape := ⟨3, ![16, 8, 128]⟩
abbrev S1x1 : Shape := ⟨2, ![1, 1]⟩
abbrev S1x8x128 : Shape := ⟨3, ![1, 8, 128]⟩
abbrev S8x128 : Shape := ⟨2, ![8, 128]⟩
abbrev S1x8x1 : Shape := ⟨3, ![1, 8, 1]⟩
abbrev S8x1 : Shape := ⟨2, ![8, 1]⟩
abbrev S8 : Shape := ⟨1, ![8]⟩
abbrev S1 : Shape := ⟨1, ![1]⟩
abbrev S1x1x1 : Shape := ⟨3, ![1, 1, 1]⟩

abbrev nBuf : Space → Nat
  | .hbm => 30
  | .vmem => 9
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1, .f32⟩
  | .hbm, ⟨3, _⟩ => ⟨S8x2048, .f32⟩
  | .hbm, ⟨4, _⟩ => ⟨S2048x8, .f32⟩
  | .hbm, ⟨5, _⟩ => ⟨S2048x8x1, .f32⟩
  | .hbm, ⟨6, _⟩ => ⟨S2048x8x128, .f32⟩
  | .hbm, ⟨7, _⟩ => ⟨S8x2048x1, .f32⟩
  | .hbm, ⟨8, _⟩ => ⟨S8x2048, .f32⟩
  | .hbm, ⟨9, _⟩ => ⟨S2048x8, .f32⟩
  | .hbm, ⟨10, _⟩ => ⟨S2048x8x1, .f32⟩
  | .hbm, ⟨11, _⟩ => ⟨S2048x8x128, .f32⟩
  | .hbm, ⟨12, _⟩ => ⟨S8x2048x1, .f32⟩
  | .hbm, ⟨13, _⟩ => ⟨S8x2048, .f32⟩
  | .hbm, ⟨14, _⟩ => ⟨S2048x8, .f32⟩
  | .hbm, ⟨15, _⟩ => ⟨S2048x8x1, .f32⟩
  | .hbm, ⟨16, _⟩ => ⟨S2048x8x128, .f32⟩
  | .hbm, ⟨17, _⟩ => ⟨S8x2048x1, .f32⟩
  | .hbm, ⟨18, _⟩ => ⟨S8x2048, .f32⟩
  | .hbm, ⟨19, _⟩ => ⟨S8x16x128, .f32⟩
  | .hbm, ⟨20, _⟩ => ⟨S16x8x128, .f32⟩
  | .hbm, ⟨21, _⟩ => ⟨S8x2048x1, .f32⟩
  | .hbm, ⟨22, _⟩ => ⟨S8x2048, .f32⟩
  | .hbm, ⟨23, _⟩ => ⟨S8x16x128, .f32⟩
  | .hbm, ⟨24, _⟩ => ⟨S16x8x128, .f32⟩
  | .hbm, ⟨25, _⟩ => ⟨S8x2048x1, .f32⟩
  | .hbm, ⟨26, _⟩ => ⟨S8x2048, .f32⟩
  | .hbm, ⟨27, _⟩ => ⟨S8x16x128, .f32⟩
  | .hbm, ⟨28, _⟩ => ⟨S16x8x128, .f32⟩
  | .hbm, ⟨29, _⟩ => ⟨S1x1, .f32⟩
  | .local _ .vmem, ⟨0, _⟩ => ⟨S2048x8x128, .f32⟩
  | .local _ .vmem, ⟨1, _⟩ => ⟨S2048x8x128, .f32⟩
  | .local _ .vmem, ⟨2, _⟩ => ⟨S2048x8x128, .f32⟩
  | .local _ .vmem, ⟨3, _⟩ => ⟨S16x8x128, .f32⟩
  | .local _ .vmem, ⟨4, _⟩ => ⟨S16x8x128, .f32⟩
  | .local _ .vmem, ⟨5, _⟩ => ⟨S16x8x128, .f32⟩
  | .local _ .vmem, ⟨6, _⟩ => ⟨S1x1, .f32⟩
  | .local _ .vmem, ⟨7, _⟩ => ⟨S16x8x128, .f32⟩
  | .local _ .vmem, ⟨8, _⟩ => ⟨S16x8x128, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c2048_i32 : BitVec 32 := 2048#32
  let v98 : BitVec 32 := Scalar.addi c0_i32 c2048_i32
  let c1_i32 : BitVec 32 := 1#32
  ⟨c0_i32, v98, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let c1_i32_46 : BitVec 32 := 1#32
  let v128 : BitVec 32 := Scalar.addi arg9 c1_i32_46
  let c2047_i32_47 : BitVec 32 := 2047#32
  let v129 : BitVec 32 := Scalar.minsi v128 c2047_i32_47
  let v130 : Index := Scalar.indexCast v129
  let c0_48 : Index := 0#32
  let c0_49 : Index := 0#32
  ![v130.toNat, 0, 0]
abbrev stage0_0 : Fin 1 → Memref sig .tc .vmem S2048x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/-
  One run of the kernel's body as a recursion on vectors: what its loop carries and keeps in the two scratch buffers
  after each trip (`state`), and the one number it stores (`out_eq`).
-/
module

public import proofs.«01_k».proof.Proof.Gen.KernelIdeal.Value
public import Idealize.ShloMosaic.Lib.VecWindow

@[expose] public section

set_option maxRecDepth 8192
set_option maxHeartbeats 4000000

noncomputable section

namespace Cert.KernelIdeal.Hand

open Cert.KernelIdeal Cert.KernelIdeal.Gen Idealize.ShloMosaic Idealize.ShloMosaic.TcCoe Idealize.SL.Sem Idealize.ShloMosaic.Tactic

variable {F : FTy → Type} [FloatOps F]

theorem zeros3 : (![0, 0, 0] : Fin 3 → Nat) = fun _ => 0 := funext fun a => by fin_cases a <;> rfl

theorem zeros2 : (![0, 0] : Fin 2 → Nat) = fun _ => 0 := funext fun a => by fin_cases a <;> rfl

/-- Row `i` of a broadcast coordinate (the last row past the end). -/
def row (x : Vec F S2048x8x128 .f32) (i : ℕ) : Vec F S1x8x128 .f32 := fun y =>
  x (Fin.cons (⟨min i 2047, by show min i 2047 < 2048; omega⟩ : Fin 2048) (fun a : Fin 2 => y a.succ))

theorem ld_row (x : Vec F S2048x8x128 .f32) (i : ℕ) {off : Fin 3 → ℕ} (h : off = ![min i 2047, 0, 0])
    (inb : ∀ a, off a + S1x8x128.size a ≤ S2048x8x128.size a) :
    View.ld x (Rect.unit off S1x8x128.size inb) = row x i := by
  subst h
  funext y
  refine congrArg x (funext fun a => Fin.ext ?_)
  match a with
  | ⟨0, _⟩ =>
    have h0 : (y 0 : ℕ) < 1 := (y 0).isLt
    show min i 2047 + 1 * (y 0).val = min i 2047
    omega
  | ⟨1, _⟩ => show 0 + 1 * (y 1).val = (y 1).val; omega
  | ⟨2, _⟩ => show 0 + 1 * (y 2).val = (y 2).val; omega

theorem offset_eq (k : Fin k0_t1_loop.trips) :
    (![(Scalar.indexCast (Scalar.minsi (Scalar.addi (Scf.iv 0#32 1#32 k.val) 1#32) 2047#32)).toNat, 0, 0] : Fin 3 → ℕ)
      = ![min (k.val + 1) 2047, 0, 0] := by
  have hk : k.val < 2048 := Nat.lt_of_lt_of_le k.isLt k0_t1_abs.2.1
  suffices h : (Scalar.indexCast (Scalar.minsi (Scalar.addi (Scf.iv 0#32 1#32 k.val) 1#32) 2047#32)).toNat = min (k.val + 1) 2047 by
    rw [h]
  have e : (Scf.iv 0#32 1#32 k.val : BitVec 32) = BitVec.ofNat 32 k.val := by
    simp [Scf.iv]
  rw [e]
  clear e
  generalize k.val = n at hk ⊢
  unfold Scalar.indexCast Scalar.minsi Scalar.addi IntOp.minsi IntOp.addi
  have h1 : (BitVec.ofNat 32 n + 1#32).toNat = n + 1 := by
    rw [BitVec.toNat_add, BitVec.toNat_ofNat]
    show (n % 2 ^ 32 + 1) % 2 ^ 32 = n + 1
    omega
  have h2 : (BitVec.ofNat 32 n + 1#32).toInt = (n : ℤ) + 1 := by
    rw [BitVec.toInt_eq_toNat_of_lt (by omega), h1]; rfl
  split
  · rename_i h
    have h := (BitVec.slt_iff_toInt_lt).mp h
    rw [h2] at h
    have : (2047#32).toInt = 2047 := rfl
    omega
  · rename_i h
    have h : ¬ (BitVec.ofNat 32 n + 1#32).toInt < (2047#32).toInt := fun c => h (BitVec.slt_iff_toInt_lt.mpr c)
    rw [h2] at h
    have : (2047#32).toInt = 2047 := rfl
    show 2047 = _
    omega

/-- What the loop carries: the kept cost per lane, the last step's least cost, the sum so far. -/
abbrev Carry (F : FTy → Type) [FloatOps F] := FVec F S8x128 .f32 × FVec F S8x1 .f32 × FVec F S8x1 .f32

section Trip

variable (x0 x1 x2 : Vec F S2048x8x128 .f32) (x3 x4 x5 : Vec F S16x8x128 .f32) (k : Fin k0_t1_loop.trips)
variable (part : FVec F S8x128 .f32) (mask stale : Vec F S16x8x128 .f32)

/-- The next row, with the used targets at `⊤`. -/
def next : FVec F S16x8x128 .f32 :=
  k0_pay12 mask (k0_pay9 (row x2 (k.val + 1))) (k0_pay10 (row x0 (k.val + 1)) x3) (k0_pay11 (row x1 (k.val + 1)) x4) x5

/-- Its least cost per lane. -/
def low1 : FVec F S8x128 .f32 :=
  let a := k0_pay9 (row x2 (k.val + 1))
  let b := k0_pay10 (row x0 (k.val + 1)) x3
  let d := k0_pay11 (row x1 (k.val + 1)) x4
  k0_pay32 (k0_pay12 mask a b d x5) (k0_pay13 mask a b d x5) (k0_pay15 mask a b d x5) (k0_pay17 mask a b d x5)
    (k0_pay19 mask a b d x5) (k0_pay21 mask a b d x5)

/-- Its second least cost per lane. -/
def low2 : FVec F S8x128 .f32 :=
  let a := k0_pay9 (row x2 (k.val + 1))
  let b := k0_pay10 (row x0 (k.val + 1)) x3
  let d := k0_pay11 (row x1 (k.val + 1)) x4
  k0_pay33 (k0_pay12 mask a b d x5) (k0_pay13 mask a b d x5) (k0_pay14 mask a b d x5) (k0_pay15 mask a b d x5)
    (k0_pay16 mask a b d x5) (k0_pay17 mask a b d x5) (k0_pay18 mask a b d x5) (k0_pay19 mask a b d x5)
    (k0_pay20 mask a b d x5) (k0_pay21 mask a b d x5) (k0_pay22 mask a b d x5)

/-- What the trip leaves in the lanes. -/
def partNext : FVec F S8x128 .f32 :=
  k0_pay5 k0_pay35 (k0_pay7 part) stale (next x0 x1 x2 x3 x4 x5 k mask) (low1 x0 x1 x2 x3 x4 x5 k mask)
    (low2 x0 x1 x2 x3 x4 x5 k mask)

/-- The mask after the trip. -/
def maskNext : Vec F S16x8x128 .f32 := k0_pay3 stale mask (k0_pay34 (k0_pay7 part))

end Trip

/-- The first row. -/
def first (x0 x1 x2 : Vec F S2048x8x128 .f32) (x3 x4 x5 : Vec F S16x8x128 .f32) : FVec F S16x8x128 .f32 :=
  k0_pay36 (row x0 0) (row x1 0) (row x2 0) x3 x4 x5

/-- What is carried, the mask and the prepared row before trip `k`. -/
def state (x0 x1 x2 : Vec F S2048x8x128 .f32) (x3 x4 x5 : Vec F S16x8x128 .f32) :
    ℕ → Carry F × Vec F S16x8x128 .f32 × Vec F S16x8x128 .f32
  | 0 => ((k0_pay39 (first x0 x1 x2 x3 x4 x5), k0_pay2 (k0_pay40 x3), k0_pay1 (k0_pay40 x3)), k0_pay37,
      k0_pay38 (first x0 x1 x2 x3 x4 x5))
  | k + 1 =>
    let s := state x0 x1 x2 x3 x4 x5 k
    if h : k < k0_t1_loop.trips then
      ((partNext x0 x1 x2 x3 x4 x5 ⟨k, h⟩ s.1.1 s.2.1 s.2.2, k0_pay7 s.1.1, k0_pay8 0#32 1#32 ⟨k, h⟩ s.1.2.1 s.1.2.2),
        maskNext s.1.1 s.2.1 s.2.2, k0_pay4 (next x0 x1 x2 x3 x4 x5 ⟨k, h⟩ s.2.1))
    else s

theorem tripR_eq (𝒱 : Variants) (c : Dev nD) (bd : Option 𝒱.V) (arg0 : Memref sig .tc .vmem S2048x8x128 .f32) (harg0 : arg0.IsWhole) (arg1 : Memref sig .tc .vmem S2048x8x128 .f32) (harg1 : arg1.IsWhole) (arg2 : Memref sig .tc .vmem S2048x8x128 .f32) (harg2 : arg2.IsWhole) (arg3 : Memref sig .tc .vmem S16x8x128 .f32) (harg3 : arg3.IsWhole) (arg4 : Memref sig .tc .vmem S16x8x128 .f32) (harg4 : arg4.IsWhole) (arg5 : Memref sig .tc .vmem S16x8x128 .f32) (harg5 : arg5.IsWhole) (arg6 : Memref sig .tc .vmem S1x1 .f32) (harg6 : arg6.IsWhole) (arg7 : Memref sig .tc .vmem S16x8x128 .f32) (harg7 : arg7.IsWhole) (arg8 : Memref sig .tc .vmem S16x8x128 .f32) (harg8 : arg8.IsWhole) (x0 x1 x2 : Vec F S2048x8x128 .f32) (x3 x4 x5 : Vec F S16x8x128 .f32) (k : Fin k0_t1_loop.trips) (s : Carry F) (f7 : BufTy.Contents (Elt F) arg7.view.ty) (f8 : BufTy.Contents (Elt F) arg8.view.ty) :
    tripR_k0_t1 𝒱 c bd arg0 harg0 arg1 harg1 arg2 harg2 arg3 harg3 arg4 harg4 arg5 harg5 arg6 harg6 arg7 harg7 arg8 harg8 k0_pay35 (harg0.unread x0) (harg1.unread x1) (harg2.unread x2) (harg3.unread x3) (harg4.unread x4) (harg5.unread x5) k s f7 f8
      = (partNext x0 x1 x2 x3 x4 x5 k s.1 (arg7.view.read (Elt F) f7) (arg8.view.read (Elt F) f8), k0_pay7 s.1,
          k0_pay8 0#32 1#32 k s.2.1 s.2.2) := by
  unfold tripR_k0_t1 trip_k0_t1
  dsimp only
  sl_unfold_words
  simp only [View.readAt_eq_ld, harg0.read_unread, harg1.read_unread, harg2.read_unread, harg3.read_unread, harg4.read_unread,
    harg5.read_unread, View.ld_unit_zero (S := S16x8x128) zeros3]
  have inb : ∀ a, (![(Scalar.indexCast (Scalar.minsi (Scalar.addi (Scf.iv 0#32 1#32 k.val) 1#32) 2047#32)).toNat, 0, 0] : Fin 3 → ℕ) a
      + S1x8x128.size a ≤ S2048x8x128.size a := by
    rw [offset_eq k]
    intro a
    fin_cases a
    · show min (k.val + 1) 2047 + 1 ≤ 2048
      omega
    · exact le_rfl
    · exact le_rfl
  unfold partNext low1 low2 next
  dsimp only
  simp only [← ld_row _ _ (offset_eq k) inb]

theorem tripL_eq (𝒱 : Variants) (c : Dev nD) (bd : Option 𝒱.V) (arg0 : Memref sig .tc .vmem S2048x8x128 .f32) (harg0 : arg0.IsWhole) (arg1 : Memref sig .tc .vmem S2048x8x128 .f32) (harg1 : arg1.IsWhole) (arg2 : Memref sig .tc .vmem S2048x8x128 .f32) (harg2 : arg2.IsWhole) (arg3 : Memref sig .tc .vmem S16x8x128 .f32) (harg3 : arg3.IsWhole) (arg4 : Memref sig .tc .vmem S16x8x128 .f32) (harg4 : arg4.IsWhole) (arg5 : Memref sig .tc .vmem S16x8x128 .f32) (harg5 : arg5.IsWhole) (arg6 : Memref sig .tc .vmem S1x1 .f32) (harg6 : arg6.IsWhole) (arg7 : Memref sig .tc .vmem S16x8x128 .f32) (harg7 : arg7.IsWhole) (arg8 : Memref sig .tc .vmem S16x8x128 .f32) (harg8 : arg8.IsWhole) (x0 x1 x2 : Vec F S2048x8x128 .f32) (x3 x4 x5 : Vec F S16x8x128 .f32) (k : Fin k0_t1_loop.trips) (s : Carry F) (f7 : BufTy.Contents (Elt F) arg7.view.ty) (f8 : BufTy.Contents (Elt F) arg8.view.ty) :
    tripL_k0_t1 𝒱 c bd arg0 harg0 arg1 harg1 arg2 harg2 arg3 harg3 arg4 harg4 arg5 harg5 arg6 harg6 arg7 harg7 arg8 harg8 k0_pay35 (harg0.unread x0) (harg1.unread x1) (harg2.unread x2) (harg3.unread x3) (harg4.unread x4) (harg5.unread x5) k s f7 f8
      = ([⟨Rect.unit ![0, 0, 0] S16x8x128.size inb_S16x8x128_S16x8x128_0_0_0,
            maskNext s.1 (arg7.view.read (Elt F) f7) (arg8.view.read (Elt F) f8)⟩],
          [⟨Rect.unit ![0, 0, 0] S16x8x128.size inb_S16x8x128_S16x8x128_0_0_0,
            k0_pay4 (next x0 x1 x2 x3 x4 x5 k (arg7.view.read (Elt F) f7))⟩]) := by
  unfold tripL_k0_t1 trip_k0_t1
  dsimp only
  sl_unfold_words
  simp only [View.readAt_eq_ld, harg0.read_unread, harg1.read_unread, harg2.read_unread, harg3.read_unread, harg4.read_unread,
    harg5.read_unread, View.ld_unit_zero (S := S16x8x128) zeros3]
  have inb : ∀ a, (![(Scalar.indexCast (Scalar.minsi (Scalar.addi (Scf.iv 0#32 1#32 k.val) 1#32) 2047#32)).toNat, 0, 0] : Fin 3 → ℕ) a
      + S1x8x128.size a ≤ S2048x8x128.size a := by
    rw [offset_eq k]
    intro a
    fin_cases a
    · show min (k.val + 1) 2047 + 1 ≤ 2048
      omega
    · exact le_rfl
    · exact le_rfl
  unfold maskNext next
  simp only [← ld_row _ _ (offset_eq k) inb]

/-- The loop's state is the recursion's: the carried value, and what the two scratch buffers read. -/
theorem st_eq (𝒱 : Variants) (c : Dev nD) (bd : Option 𝒱.V) (arg0 : Memref sig .tc .vmem S2048x8x128 .f32) (harg0 : arg0.IsWhole) (arg1 : Memref sig .tc .vmem S2048x8x128 .f32) (harg1 : arg1.IsWhole) (arg2 : Memref sig .tc .vmem S2048x8x128 .f32) (harg2 : arg2.IsWhole) (arg3 : Memref sig .tc .vmem S16x8x128 .f32) (harg3 : arg3.IsWhole) (arg4 : Memref sig .tc .vmem S16x8x128 .f32) (harg4 : arg4.IsWhole) (arg5 : Memref sig .tc .vmem S16x8x128 .f32) (harg5 : arg5.IsWhole) (arg6 : Memref sig .tc .vmem S1x1 .f32) (harg6 : arg6.IsWhole) (arg7 : Memref sig .tc .vmem S16x8x128 .f32) (harg7 : arg7.IsWhole) (arg8 : Memref sig .tc .vmem S16x8x128 .f32) (harg8 : arg8.IsWhole) (x0 x1 x2 : Vec F S2048x8x128 .f32) (x3 x4 x5 : Vec F S16x8x128 .f32) (G7 : BufTy.Contents (Elt F) arg7.view.ty) (G8 : BufTy.Contents (Elt F) arg8.view.ty)
    (h7 : arg7.view.read (Elt F) G7 = k0_pay37) (h8 : arg8.view.read (Elt F) G8 = k0_pay38 (first x0 x1 x2 x3 x4 x5)) (k : ℕ) :
    let st := st_k0_t1 𝒱 c bd arg0 harg0 arg1 harg1 arg2 harg2 arg3 harg3 arg4 harg4 arg5 harg5 arg6 harg6 arg7 harg7 arg8 harg8 k0_pay35 (harg0.unread x0) (harg1.unread x1) (harg2.unread x2) (harg3.unread x3) (harg4.unread x4) (harg5.unread x5) G7 G8
      (k0_pay39 (first x0 x1 x2 x3 x4 x5), k0_pay2 (k0_pay40 x3), k0_pay1 (k0_pay40 x3)) k
    st.1 = (state x0 x1 x2 x3 x4 x5 k).1 ∧ arg7.view.read (Elt F) (arg7.view.writes (Elt F) G7 st.2.1) = (state x0 x1 x2 x3 x4 x5 k).2.1
      ∧ arg8.view.read (Elt F) (arg8.view.writes (Elt F) G8 st.2.2) = (state x0 x1 x2 x3 x4 x5 k).2.2 := by
  induction k with
  | zero => exact ⟨rfl, h7, h8⟩
  | succ k ih =>
    obtain ⟨e1, e7, e8⟩ := ih
    by_cases h : k < k0_t1_loop.trips
    · have hs := st_k0_t1_succ (F := F) 𝒱 c bd arg0 harg0 arg1 harg1 arg2 harg2 arg3 harg3 arg4 harg4 arg5 harg5 arg6 harg6 arg7 harg7 arg8 harg8 k0_pay35 (harg0.unread x0) (harg1.unread x1) (harg2.unread x2) (harg3.unread x3) (harg4.unread x4) (harg5.unread x5) G7 G8
        (k0_pay39 (first x0 x1 x2 x3 x4 x5), k0_pay2 (k0_pay40 x3), k0_pay1 (k0_pay40 x3)) ⟨k, h⟩
      rw [tripR_eq, tripL_eq] at hs
      dsimp only at hs e1 e7 e8 ⊢
      rw [hs]
      dsimp only
      rw [e7, e8, e1]
      refine ⟨?_, ?_, ?_⟩
      · simp only [state, h, dif_pos]
      · rw [List.singleton_append, View.read_writes_full]
        simp only [state, h, dif_pos]
      · rw [List.singleton_append, View.read_writes_full]
        simp only [state, h, dif_pos]
    · dsimp only
      rw [st_k0_t1.eq_2]
      unfold st_k0_t1Step
      rw [dif_neg h]
      simp only [state, h, dif_neg, not_false_eq_true]
      exact ⟨e1, e7, e8⟩

theorem out_eq (c : Dev nD) (arg0 : Memref sig .tc .vmem S2048x8x128 .f32) (harg0 : arg0.IsWhole) (arg1 : Memref sig .tc .vmem S2048x8x128 .f32) (harg1 : arg1.IsWhole) (arg2 : Memref sig .tc .vmem S2048x8x128 .f32) (harg2 : arg2.IsWhole) (arg3 : Memref sig .tc .vmem S16x8x128 .f32) (harg3 : arg3.IsWhole) (arg4 : Memref sig .tc .vmem S16x8x128 .f32) (harg4 : arg4.IsWhole) (arg5 : Memref sig .tc .vmem S16x8x128 .f32) (harg5 : arg5.IsWhole) (arg6 : Memref sig .tc .vmem S1x1 .f32) (harg6 : arg6.IsWhole) (arg7 : Memref sig .tc .vmem S16x8x128 .f32) (harg7 : arg7.IsWhole) (arg8 : Memref sig .tc .vmem S16x8x128 .f32) (harg8 : arg8.IsWhole) (x0 x1 x2 : Vec F S2048x8x128 .f32) (x3 x4 x5 : Vec F S16x8x128 .f32) :
    out0_A_6 c arg0 harg0 arg1 harg1 arg2 harg2 arg3 harg3 arg4 harg4 arg5 harg5 arg6 harg6 arg7 harg7 arg8 harg8 x0 x1 x2 x3 x4 x5
      = k0_pay6 (state x0 x1 x2 x3 x4 x5 k0_t1_loop.trips).1.2.1 (state x0 x1 x2 x3 x4 x5 k0_t1_loop.trips).1.2.2 := by
  unfold out0_A_6
  rw [View.read_writes_eq_canon _ _ _ (cover0_A_6 c arg0 harg0 arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero zeros2]
  have r0 : ∀ (x : Vec F S2048x8x128 .f32) (inb : ∀ a, (![0, 0, 0] : Fin 3 → ℕ) a + S1x8x128.size a ≤ S2048x8x128.size a),
      View.ld x (Rect.unit ![0, 0, 0] S1x8x128.size inb) = row x 0 := fun x inb => ld_row x 0 rfl inb
  simp only [View.readAt_eq_ld, harg0.read_unread, harg1.read_unread, harg2.read_unread, harg3.read_unread, harg4.read_unread,
    harg5.read_unread, View.ld_unit_zero (S := S16x8x128) zeros3, r0]
  have h := (st_eq Variants.none c none arg0 harg0 arg1 harg1 arg2 harg2 arg3 harg3 arg4 harg4 arg5 harg5 arg6 harg6 arg7 harg7 arg8 harg8 x0 x1 x2 x3 x4 x5
    (arg7.view.writes (Elt F) arg7.view.junk [⟨Rect.unit ![0, 0, 0] S16x8x128.size inb_S16x8x128_S16x8x128_0_0_0, k0_pay37⟩])
    (arg8.view.writes (Elt F) arg8.view.junk [⟨Rect.unit ![0, 0, 0] S16x8x128.size inb_S16x8x128_S16x8x128_0_0_0,
      k0_pay38 (first x0 x1 x2 x3 x4 x5)⟩]) (View.read_writes_full _ _ _ _ _) (View.read_writes_full _ _ _ _ _) k0_t1_loop.trips).1
  rw [← h]
  rfl

end Cert.KernelIdeal.Hand

end
-- ==== Proof.Core.lean ====
/-
  The greedy assignment, as mathematics. `r i j` is what it costs to send source point `i` to target `j`. `used r i` are
  the targets taken before step `i`, `best r i` the least cost of a target that is still free: at step `i` the free
  targets of that cost are taken. When no two targets of a row cost the same, step `i` takes exactly one (`pick`), and
  the least free cost is below `⊤` at every step but the last (`best_lt_top`).

  `Inv.step` is the two-stage pipeline: row `i + 1` is prepared with the targets used before step `i` only, its least
  and second least cost are kept per lane, and the second stands in for the first in the lane where step `i`'s own
  target is the first. The least of the kept costs is then row `i + 1`'s least free cost.
-/
module

public import Idealize.ShloMosaic.PureOps.Ideal

@[expose] public section

namespace Cert.Greedy

open Finset

section Assignment

variable {J K : Type} [Fintype J] [DecidableEq J] [LinearOrder K] [OrderTop K]

/-- The targets taken before step `i`. -/
def used (r : ℕ → J → K) : ℕ → Finset J
  | 0 => ∅
  | i + 1 => used r i ∪ univ.filter fun j => j ∉ used r i ∧ r i j = (used r i)ᶜ.inf (r i)

/-- The least cost of a target that is free at step `i`. -/
def best (r : ℕ → J → K) (i : ℕ) : K := (used r i)ᶜ.inf (r i)

/-- Row `i` with the targets of `U` put at `⊤`. -/
def masked (r : ℕ → J → K) (U : Finset J) (i : ℕ) (j : J) : K := if j ∈ U then ⊤ else r i j

variable {r : ℕ → J → K}

theorem mem_used_succ {i : ℕ} {j : J} : j ∈ used r (i + 1) ↔ j ∈ used r i ∨ r i j = best r i ∧ j ∉ used r i := by
  simp only [used, mem_union, mem_filter, mem_univ, true_and, best, and_comm]

/-- Naming the targets otherwise changes nothing. -/
theorem used_equiv {J' : Type} [Fintype J'] [DecidableEq J'] (e : J' ≃ J) (i : ℕ) :
    used (fun i q => r i (e q)) i = (used r i).map e.symm.toEmbedding
      ∧ best (fun i q => r i (e q)) i = best r i := by
  have hb : ∀ i, used (fun i q => r i (e q)) i = (used r i).map e.symm.toEmbedding →
      best (fun i q => r i (e q)) i = best r i := fun i h => by
    have hc : (used (fun i q => r i (e q)) i)ᶜ = ((used r i)ᶜ).map e.symm.toEmbedding := by
      rw [h]
      ext q
      simp [Equiv.symm_apply_eq]
    unfold best
    rw [hc, inf_map]
    congr 1
    funext j
    simp
  induction i with
  | zero => exact ⟨rfl, hb 0 rfl⟩
  | succ i ih =>
    obtain ⟨ih, ihb⟩ := ih
    have h : used (fun i q => r i (e q)) (i + 1) = (used r (i + 1)).map e.symm.toEmbedding := by
      ext q
      rw [mem_used_succ, ihb, ih]
      simp only [mem_map_equiv, Equiv.symm_symm, mem_used_succ]
    exact ⟨h, hb _ h⟩

/-- Some free target has the least free cost, as long as there is a free one. -/
theorem exists_best {i : ℕ} (h : (used r i)ᶜ.Nonempty) : ∃ j, j ∉ used r i ∧ r i j = best r i := by
  obtain ⟨j, hj, e⟩ := exists_mem_eq_inf _ h (r i)
  exact ⟨j, by simpa using hj, e.symm⟩

theorem best_le {i : ℕ} {j : J} (h : j ∉ used r i) : best r i ≤ r i j :=
  inf_le (by simpa using h)

/-- Step `i` takes one target. -/
theorem pick {i : ℕ} (hr : Function.Injective (r i)) (h : (used r i)ᶜ.Nonempty) :
    ∃ j, j ∉ used r i ∧ r i j = best r i ∧ used r (i + 1) = insert j (used r i) := by
  obtain ⟨j, hj, e⟩ := exists_best h
  refine ⟨j, hj, e, Finset.ext fun j' => ?_⟩
  rw [mem_used_succ, mem_insert]
  constructor
  · rintro (h' | ⟨h', -⟩)
    · exact .inr h'
    · exact .inl (hr (h'.trans e.symm))
  · rintro (rfl | h')
    · exact .inr ⟨e, hj⟩
    · exact .inl h'

/-- So `i` targets are taken before step `i`. -/
theorem card_used {n : ℕ} (hn : Fintype.card J = n) (hr : ∀ i < n, Function.Injective (r i)) :
    ∀ i ≤ n, (used r i).card = i
  | 0, _ => rfl
  | i + 1, hi => by
    have ih := card_used hn hr i (by omega)
    have hne : (used r i)ᶜ.Nonempty := by
      rw [← card_pos, card_compl, ih, hn]; omega
    obtain ⟨j, hj, -, e⟩ := pick (hr i (by omega)) hne
    rw [e, card_insert_of_notMem hj, ih]

theorem free_nonempty {n : ℕ} (hn : Fintype.card J = n) (hr : ∀ i < n, Function.Injective (r i)) {i : ℕ} (hi : i < n) :
    (used r i)ᶜ.Nonempty := by
  rw [← card_pos, card_compl, card_used hn hr i (by omega), hn]; omega

/-- Two targets are free before the last step, and at most one of a row costs `⊤`: the least free cost is below it. -/
theorem best_lt_top {n : ℕ} (hn : Fintype.card J = n) (hr : ∀ i < n, Function.Injective (r i)) {i : ℕ} (hi : i + 1 < n) :
    best r i < ⊤ := by
  have h2 : 1 < ((used r i)ᶜ).card := by
    rw [card_compl, card_used hn hr i (by omega), hn]; omega
  obtain ⟨a, ha, b, hb, hab⟩ := one_lt_card.mp h2
  rw [lt_top_iff_ne_top]
  intro e
  have top {j : J} (hj : j ∈ (used r i)ᶜ) : r i j = ⊤ := top_le_iff.mp (e ▸ best_le (by simpa using hj))
  exact hab (hr i (by omega) ((top ha).trans (top hb).symm))

/-- The least of the row with the taken targets at `⊤` is the least free cost. -/
theorem best_isLeast {i : ℕ} (h : (used r i)ᶜ.Nonempty) : IsLeast (Set.range (masked r (used r i) i)) (best r i) := by
  obtain ⟨j, hj, e⟩ := exists_best h
  refine ⟨⟨j, by rw [masked, if_neg hj, e]⟩, ?_⟩
  rintro _ ⟨j', rfl⟩
  unfold masked
  split
  · exact le_top
  · exact best_le ‹_›

/-- An element of the masked row at a value below `⊤` is free and has that cost. -/
theorem masked_eq {U : Finset J} {i : ℕ} {j : J} {v : K} (hv : v < ⊤) : masked r U i j = v ↔ j ∉ U ∧ r i j = v := by
  unfold masked
  split
  · exact ⟨fun h => absurd h.symm hv.ne, fun h => absurd ‹_› h.1⟩
  · exact ⟨fun h => ⟨‹_›, h⟩, fun h => h.2⟩

/-- What the row prepared one step early says of the pick: exactly the picked target shows the least free cost. -/
theorem masked_eq_best {n : ℕ} (hn : Fintype.card J = n) (hr : ∀ i < n, Function.Injective (r i)) {i : ℕ}
    (hi : i + 1 < n) {U : Finset J} (hU : U ⊆ used r i) {j : J} :
    masked r U i j = best r i ↔ j ∈ used r (i + 1) ∧ j ∉ used r i := by
  rw [masked_eq (best_lt_top hn hr hi), mem_used_succ]
  constructor
  · rintro ⟨-, h⟩
    obtain ⟨j', hj', e⟩ := exists_best (free_nonempty hn hr (i := i) (by omega))
    obtain rfl := hr i (by omega) (h.trans e.symm)
    exact ⟨.inr ⟨h, hj'⟩, hj'⟩
  · rintro ⟨h | h, h'⟩
    · exact absurd h h'
    · exact ⟨fun hh => h' (hU hh), h.1⟩

end Assignment

/-! ## Least and second least of a few values -/

section Top2

variable {G K : Type} [DecidableEq G] [LinearOrder K]

/-- `a` and `b` are the least and the second least of `v` over `S`: `b` is least once one place of `a` is left out. -/
structure Top2 (v : G → K) (S : Finset G) (a b : K) : Prop where
  mem : ∃ g ∈ S, v g = a
  le : ∀ g ∈ S, a ≤ v g
  le2 : a ≤ b
  mem2 : ∀ g₀ ∈ S, v g₀ = a → ∃ g ∈ S, g ≠ g₀ ∧ v g = b
  lb2 : ∀ g₀ ∈ S, v g₀ = a → ∀ g ∈ S, g ≠ g₀ → b ≤ v g

theorem Top2.pair (v : G → K) {g g' : G} (h : g ≠ g') : Top2 v {g, g'} (min (v g) (v g')) (max (v g) (v g')) where
  mem := by
    rcases le_total (v g) (v g') with hh | hh
    · exact ⟨g, by simp, (min_eq_left hh).symm⟩
    · exact ⟨g', by simp, (min_eq_right hh).symm⟩
  le := by simp
  le2 := min_le_max
  mem2 := by
    intro g₀ hg e
    rcases le_total (v g) (v g') with hh | hh
    · rw [max_eq_right hh]; rw [min_eq_left hh] at e
      rcases mem_insert.mp hg with rfl | hg
      · exact ⟨g', by simp, h.symm, rfl⟩
      · obtain rfl := mem_singleton.mp hg
        exact ⟨g, by simp, h, e.symm⟩
    · rw [max_eq_left hh]; rw [min_eq_right hh] at e
      rcases mem_insert.mp hg with rfl | hg
      · exact ⟨g', by simp, h.symm, e.symm⟩
      · obtain rfl := mem_singleton.mp hg
        exact ⟨g, by simp, h, rfl⟩
  lb2 := by
    intro g₀ hg e g₁ hg₁ hne
    rcases mem_insert.mp hg with rfl | hg
    · rcases mem_insert.mp hg₁ with rfl | hg₁
      · exact absurd rfl hne
      · obtain rfl := mem_singleton.mp hg₁
        exact max_le (e ▸ min_le_right _ _) le_rfl
    · obtain rfl := mem_singleton.mp hg
      rcases mem_insert.mp hg₁ with rfl | hg₁
      · exact max_le le_rfl (e ▸ min_le_left _ _)
      · obtain rfl := mem_singleton.mp hg₁
        exact absurd rfl hne

private theorem Top2.half {v : G → K} {S T : Finset G} {a b a' b' : K} (h : Top2 v S a b) (h' : Top2 v T a' b')
    (hd : Disjoint S T) (hle : a ≤ a') :
    (∀ g₀ ∈ S, v g₀ = a → ∃ g ∈ S ∪ T, g ≠ g₀ ∧ v g = min a' b) ∧
      (∀ g₀ ∈ S, v g₀ = a → ∀ g ∈ S ∪ T, g ≠ g₀ → min a' b ≤ v g) := by
  refine ⟨fun g₀ hg e => ?_, fun g₀ hg e g hg' hne => ?_⟩
  · rcases le_total a' b with hh | hh
    · obtain ⟨g, hgT, eg⟩ := h'.mem
      exact ⟨g, mem_union_right _ hgT, fun c => disjoint_left.mp hd hg (c ▸ hgT), by rw [min_eq_left hh, eg]⟩
    · obtain ⟨g, hgS, hne, eg⟩ := h.mem2 g₀ hg e
      exact ⟨g, mem_union_left _ hgS, hne, by rw [min_eq_right hh, eg]⟩
  · rcases mem_union.mp hg' with hg' | hg'
    · exact (min_le_right _ _).trans (h.lb2 g₀ hg e g hg' hne)
    · exact (min_le_left _ _).trans (h'.le g hg')

private theorem Top2.half_eq {v : G → K} {S T : Finset G} {a b a' b' : K} (h' : Top2 v T a' b') (hle : a ≤ a') :
    min (max a a') (min b b') = min a' b := by
  rw [max_eq_right hle, ← min_assoc, min_right_comm, min_eq_left h'.le2]

/-- One match of the tournament. -/
theorem Top2.merge {v : G → K} {S T : Finset G} {a b a' b' : K} (h : Top2 v S a b) (h' : Top2 v T a' b')
    (hd : Disjoint S T) : Top2 v (S ∪ T) (min a a') (min (max a a') (min b b')) where
  mem := by
    rcases le_total a a' with hh | hh
    · obtain ⟨g, hg, e⟩ := h.mem
      exact ⟨g, mem_union_left _ hg, by rw [min_eq_left hh, e]⟩
    · obtain ⟨g, hg, e⟩ := h'.mem
      exact ⟨g, mem_union_right _ hg, by rw [min_eq_right hh, e]⟩
  le := by
    intro g hg
    rcases mem_union.mp hg with hg | hg
    · exact (min_le_left _ _).trans (h.le g hg)
    · exact (min_le_right _ _).trans (h'.le g hg)
  le2 := le_min min_le_max (min_le_min h.le2 h'.le2)
  mem2 := by
    intro g₀ hg e
    rcases mem_union.mp hg with hg | hg
    · have hle : a ≤ a' := by rw [← h.le g₀ hg |>.antisymm (e ▸ min_le_left _ _)] at e; exact e ▸ min_le_right _ _
      rw [min_eq_left hle] at e
      rw [Top2.half_eq (S := S) h' hle]
      exact (Top2.half h h' hd hle).1 g₀ hg e
    · have hle : a' ≤ a := by rw [← h'.le g₀ hg |>.antisymm (e ▸ min_le_right _ _)] at e; exact e ▸ min_le_left _ _
      rw [min_eq_right hle] at e
      rw [max_comm, min_comm b, Top2.half_eq (S := S) h hle, union_comm]
      exact (Top2.half h' h hd.symm hle).1 g₀ hg e
  lb2 := by
    intro g₀ hg e
    rcases mem_union.mp hg with hg | hg
    · have hle : a ≤ a' := by rw [← h.le g₀ hg |>.antisymm (e ▸ min_le_left _ _)] at e; exact e ▸ min_le_right _ _
      rw [min_eq_left hle] at e
      rw [Top2.half_eq (S := S) h' hle]
      exact (Top2.half h h' hd hle).2 g₀ hg e
    · have hle : a' ≤ a := by rw [← h'.le g₀ hg |>.antisymm (e ▸ min_le_right _ _)] at e; exact e ▸ min_le_left _ _
      rw [min_eq_right hle] at e
      rw [max_comm, min_comm b, Top2.half_eq (S := S) h hle, union_comm]
      exact (Top2.half h' h hd.symm hle).2 g₀ hg e

end Top2

/-! ## The pipeline -/

section Pipeline

variable {G L K I : Type} [Fintype G] [Fintype L] [DecidableEq G] [DecidableEq L] [LinearOrder K] [OrderTop K]

/-- What the kernel holds for one batch element before step `i`: per lane a cost, the least of which is row `i`'s least
    free cost; row `i` with the targets used before step `i - 1` at `⊤`; and which targets are used. -/
structure Inv (r : ℕ → G × L → K) (i : ℕ) (part : L → K) (stale : G → L → K) (mk : G → L → Prop) : Prop where
  part : IsLeast (Set.range part) (best r i)
  stale : ∀ g l, stale g l = masked r (used r (i - 1)) i (g, l)
  taken : ∀ g l, mk g l ↔ (g, l) ∈ used r i

theorem used_pred_subset {J : Type} [Fintype J] [DecidableEq J] (r : ℕ → J → K) (i : ℕ) : used r (i - 1) ⊆ used r i := by
  cases i with
  | zero => exact subset_rfl
  | succ i => exact fun j hj => mem_used_succ.mpr (.inl hj)

/-- Before the first step nothing is used. -/
theorem Inv.zero {r : ℕ → G × L → K} {part : L → K} {stale : G → L → K} {mk : G → L → Prop} {p2 : L → K}
    [Nonempty (G × L)]
    (hs : ∀ g l, stale g l = r 0 (g, l)) (hm : ∀ g l, ¬ mk g l)
    (hp : ∀ l, Top2 (fun g => stale g l) univ (part l) (p2 l)) : Inv r 0 part stale mk where
  part := by
    have hb : IsLeast (Set.range (masked r (used r 0) 0)) (best r 0) :=
      best_isLeast (by simp [used])
    obtain ⟨⟨⟨g, l⟩, e⟩, lb⟩ := hb
    have hmk : ∀ g l, masked r (used r 0) 0 (g, l) = stale g l := fun g l => by simp [masked, used, hs]
    refine ⟨⟨l, le_antisymm ?_ ?_⟩, ?_⟩
    · rw [← e, hmk]; exact (hp l).le g (mem_univ g)
    · obtain ⟨g', -, e'⟩ := (hp l).mem
      rw [← e', ← hmk]; exact lb ⟨_, rfl⟩
    · rintro _ ⟨l', rfl⟩
      obtain ⟨g', -, e'⟩ := (hp l').mem
      rw [← e', ← hmk]; exact lb ⟨_, rfl⟩
  stale g l := by simp [masked, used, hs]
  taken g l := by simpa [used] using hm g l

/-- One step. `m` is the least kept cost, `am` the index of a target that shows it, `a l` the index of a target of lane `l`
    that shows the lane's least cost of the next row. -/
theorem Inv.step {r : ℕ → G × L → K} {n : ℕ} (hn : Fintype.card (G × L) = n) (hr : ∀ i < n, Function.Injective (r i))
    {i : ℕ} (hi : i + 1 < n) {part : L → K} {stale : G → L → K} {mk : G → L → Prop} (h : Inv r i part stale mk)
    {m : K} (hm : IsLeast (Set.range part) m)
    {mk' : G → L → Prop} (hmk : ∀ g l, mk' g l ↔ stale g l = m ∨ mk g l)
    {stale' : G → L → K} (hs : ∀ g l, (mk g l → stale' g l = ⊤) ∧ (¬ mk g l → stale' g l = r (i + 1) (g, l)))
    {p1 p2 : L → K} (hp : ∀ l, Top2 (fun g => stale' g l) univ (p1 l) (p2 l))
    {ix : G → L → I} (hix : ∀ g l g' l', ix g l = ix g' l' → g = g' ∧ l = l')
    {am : I} (ham : (∃ g l, stale g l = m) → ∃ g l, stale g l = m ∧ am = ix g l)
    {a : L → I} (ha : ∀ l, ∃ g, stale' g l = p1 l ∧ a l = ix g l)
    {part' : L → K} (hpart : ∀ l, (a l = am → part' l = p2 l) ∧ (a l ≠ am → part' l = p1 l)) :
    Inv r (i + 1) part' stale' mk' := by
  have hmb : m = best r i := hm.unique h.part
  have hst : ∀ g l, stale g l = m ↔ (g, l) ∈ used r (i + 1) ∧ (g, l) ∉ used r i := fun g l => by
    rw [h.stale, hmb]; exact masked_eq_best hn hr hi (used_pred_subset r i)
  obtain ⟨⟨g₀, l₀⟩, hj₀, -, hins⟩ := pick (hr i (by omega)) (free_nonempty hn hr (i := i) (by omega))
  have hst₀ : ∀ g l, stale g l = m → g = g₀ ∧ l = l₀ := fun g l e => by
    obtain ⟨e1, e2⟩ := (hst g l).mp e
    rw [hins, mem_insert] at e1
    rcases e1 with e1 | e1
    · exact ⟨congrArg Prod.fst e1, congrArg Prod.snd e1⟩
    · exact absurd e1 e2
  have ham₀ : am = ix g₀ l₀ := by
    obtain ⟨g, l, e, e'⟩ := ham ⟨g₀, l₀, (hst g₀ l₀).mpr ⟨by rw [hins]; exact mem_insert_self _ _, hj₀⟩⟩
    obtain ⟨rfl, rfl⟩ := hst₀ g l e
    exact e'
  have hs' : ∀ g l, stale' g l = masked r (used r i) (i + 1) (g, l) := fun g l => by
    unfold masked
    split
    · exact (hs g l).1 ((h.taken g l).mpr ‹_›)
    · exact (hs g l).2 (fun c => ‹(g, l) ∉ used r i› ((h.taken g l).mp c))
  have hfull : ∀ g l, (g, l) ≠ (g₀, l₀) → masked r (used r (i + 1)) (i + 1) (g, l) = stale' g l := fun g l hne => by
    rw [hs']
    unfold masked
    rw [hins]
    simp only [mem_insert, hne, false_or]
  have hfull₀ : masked r (used r (i + 1)) (i + 1) (g₀, l₀) = ⊤ := by
    unfold masked; rw [if_pos (by rw [hins]; exact mem_insert_self _ _)]
  -- each kept cost is a free target's, and no free target of its lane costs less
  have hmem : ∀ l, ∃ g, (g, l) ≠ (g₀, l₀) ∧ stale' g l = part' l := fun l => by
    obtain ⟨g, eg, ea⟩ := ha l
    by_cases hc : a l = am
    · obtain ⟨rfl, rfl⟩ := hix _ _ _ _ (ea.symm.trans (hc.trans ham₀))
      obtain ⟨g', -, hne, e'⟩ := (hp l).mem2 g (mem_univ g) eg
      exact ⟨g', fun c => hne (congrArg Prod.fst c), e'.trans ((hpart l).1 hc).symm⟩
    · refine ⟨g, fun c => hc ?_, eg.trans ((hpart l).2 hc).symm⟩
      rw [ea, ham₀]
      exact congrArg (fun x => ix x.1 x.2) c
  have hlb : ∀ l g, (g, l) ≠ (g₀, l₀) → part' l ≤ stale' g l := fun l g hne => by
    by_cases hc : a l = am
    · obtain ⟨g₁, eg, ea⟩ := ha l
      obtain ⟨rfl, rfl⟩ := hix _ _ _ _ (ea.symm.trans (hc.trans ham₀))
      rw [(hpart l).1 hc]
      exact (hp l).lb2 g₁ (mem_univ _) eg g (mem_univ _) (fun c => hne (by rw [c]))
    · rw [(hpart l).2 hc]; exact (hp l).le g (mem_univ g)
  obtain ⟨⟨⟨g, l⟩, e⟩, lb⟩ := best_isLeast (free_nonempty hn hr (i := i + 1) hi)
  refine ⟨⟨?_, ?_⟩, fun g l => hs' g l, fun g l => ?_⟩
  · by_cases hne : (g, l) = (g₀, l₀)
    · rw [hne, hfull₀] at e
      obtain ⟨g', hne', e'⟩ := hmem l₀
      refine ⟨l₀, ?_⟩
      rw [← e', ← hfull g' l₀ hne', ← e]
      exact top_le_iff.mp (e ▸ lb ⟨_, rfl⟩)
    · refine ⟨l, le_antisymm ?_ ?_⟩
      · rw [← e, hfull g l hne]; exact hlb l g hne
      · obtain ⟨g', hne', e'⟩ := hmem l
        rw [← e', ← hfull g' l hne']; exact lb ⟨_, rfl⟩
  · rintro _ ⟨l', rfl⟩
    obtain ⟨g', hne', e'⟩ := hmem l'
    rw [← e', ← hfull g' l' hne']; exact lb ⟨_, rfl⟩
  · rw [hmk, hst, h.taken]
    constructor
    · rintro (h' | h')
      · exact h'.1
      · exact mem_used_succ.mpr (.inl h')
    · intro h'
      by_cases hc : (g, l) ∈ used r i
      · exact .inr hc
      · exact .inl ⟨h', hc⟩

end Pipeline

end Cert.Greedy

end
-- ==== Proof.Ops.lean ====
/-
  The operations both programs end in, over the extended reals: least elements as folds, the square root's order, the
  two divisions, and the position words the kernel looks up.
-/
module

public import proofs.«01_k».proof.Proof.Core
public import Idealize.ShloMosaic.Lib.Pointwise

@[expose] public section

noncomputable section

namespace Cert.Greedy

open Finset Idealize.ShloMosaic

/-! ## Constants -/

theorem ofBits_top : Ideal.ofBits .f32 0x7F800000#32 = ⊤ := by simp [Ideal.ofBits, Ideal.ieee]

theorem ofBits_2048 : Ideal.ofBits .f32 0x45000000#32 = ((2048 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

/-! ## The fold of `min` from `⊤` -/

theorem isLeast_fold_min {α : Type} [Fintype α] [Nonempty α] (f : α → EReal) :
    IsLeast (Set.range f) (univ.fold min ⊤ f) := by
  have e : univ.fold min ⊤ f = univ.inf f := rfl
  rw [e]
  obtain ⟨a, -, h⟩ := exists_mem_eq_inf univ univ_nonempty f
  refine ⟨⟨a, h.symm⟩, ?_⟩
  rintro _ ⟨b, rfl⟩
  exact inf_le (mem_univ b)

/-! ## Squares and roots -/

theorem sq_nonneg (x : EReal) : 0 ≤ x * x := by
  induction x with
  | bot => simp
  | top => simp
  | coe r => rw [← EReal.coe_mul]; exact_mod_cast mul_self_nonneg r

theorem sqrt_nonneg {x : EReal} (h : 0 ≤ x) : 0 ≤ Ideal.sqrt x := by
  induction x with
  | bot => simp at h
  | top => simp
  | coe r =>
    have h' : (0 : ℝ) ≤ r := by exact_mod_cast h
    rw [Ideal.sqrt_coe, if_neg (not_lt.mpr h')]
    exact_mod_cast Real.sqrt_nonneg r

theorem sqrt_lt {x y : EReal} (hx : 0 ≤ x) (h : x < y) : Ideal.sqrt x < Ideal.sqrt y := by
  induction x with
  | bot => simp at hx
  | top => simp at h
  | coe r =>
    have hr : (0 : ℝ) ≤ r := by exact_mod_cast hx
    induction y with
    | bot => simp at h
    | top =>
      rw [Ideal.sqrt_coe, if_neg (not_lt.mpr hr), Ideal.sqrt_top]
      exact EReal.coe_lt_top _
    | coe s =>
      have hrs : r < s := by exact_mod_cast h
      rw [Ideal.sqrt_coe, if_neg (not_lt.mpr hr), Ideal.sqrt_coe, if_neg (not_lt.mpr (hr.trans hrs.le))]
      exact_mod_cast Real.sqrt_lt_sqrt hr hrs

theorem sqrt_le {x y : EReal} (hx : 0 ≤ x) (h : x ≤ y) : Ideal.sqrt x ≤ Ideal.sqrt y := by
  rcases h.eq_or_lt with rfl | h
  · exact le_rfl
  · exact (sqrt_lt hx h).le

theorem sqrt_inj {x y : EReal} (hx : 0 ≤ x) (hy : 0 ≤ y) (h : Ideal.sqrt x = Ideal.sqrt y) : x = y := by
  rcases lt_trichotomy x y with h' | h' | h'
  · exact absurd h (sqrt_lt hx h').ne
  · exact h'
  · exact absurd h (sqrt_lt hy h').ne'

/-! ## The two ways to the mean -/

theorem sum_mul_nonneg {α : Type} (s : Finset α) (f : α → EReal) (hf : ∀ a, 0 ≤ f a) (c : EReal) :
    (∑ a ∈ s, f a) * c = ∑ a ∈ s, f a * c := by
  classical
  induction s using Finset.induction_on with
  | empty => simp
  | insert a s h ih =>
    rw [sum_insert h, sum_insert h, EReal.right_distrib_of_nonneg (hf a) (sum_nonneg fun i _ => hf i), ih]

/-- Dividing each batch element's sum by 2048 and their sum by 8 is dividing the whole sum by 16384. -/
theorem mean_eq (S : Fin 8 → EReal) (hS : ∀ b, 0 ≤ S b) :
    Ideal.div (∑ b, Ideal.div (S b) ((2048 : ℝ) : EReal)) ((8 : ℝ) : EReal) = Ideal.div (∑ b, S b) ((16384 : ℝ) : EReal) := by
  rw [Ideal.div_coe (by norm_num), Ideal.div_coe (by norm_num)]
  simp only [Ideal.div_coe (show (2048 : ℝ) ≠ 0 by norm_num)]
  rw [← sum_mul_nonneg _ _ hS, mul_assoc, ← EReal.coe_mul]
  norm_num

/-! ## The squared distance of two points -/

/-- The squared distance of source point `i` and target `j` of batch element `b`. -/
def sqd (p t : Fin 8 → Fin 2048 → Fin 3 → EReal) (b : Fin 8) (i j : Fin 2048) : EReal :=
  ((p b i 0 - t b j 0) * (p b i 0 - t b j 0) + (p b i 1 - t b j 1) * (p b i 1 - t b j 1))
    + (p b i 2 - t b j 2) * (p b i 2 - t b j 2)

theorem sqd_nonneg (p t : Fin 8 → Fin 2048 → Fin 3 → EReal) (b : Fin 8) (i j : Fin 2048) : 0 ≤ sqd p t b i j :=
  add_nonneg (add_nonneg (sq_nonneg _) (sq_nonneg _)) (sq_nonneg _)

/-- Source point `i`, the last one past the end. -/
def src (i : ℕ) : Fin 2048 := ⟨min i 2047, by omega⟩

theorem src_of (i : Fin 2048) : src i.val = i := Fin.ext (by show min i.val 2047 = i.val; omega)

/-- Target `g * 128 + l` is the one the kernel keeps at cell `(g, l)`. -/
def cells : Fin 16 × Fin 128 ≃ Fin 2048 where
  toFun q := ⟨q.1.val * 128 + q.2.val, by have := q.1.isLt; have := q.2.isLt; omega⟩
  invFun j := (⟨j.val / 128, by have := j.isLt; omega⟩, ⟨j.val % 128, by omega⟩)
  left_inv q := Prod.ext (Fin.ext (by have := q.2.isLt; show (q.1.val * 128 + q.2.val) / 128 = q.1.val; omega))
    (Fin.ext (by have := q.2.isLt; show (q.1.val * 128 + q.2.val) % 128 = q.2.val; omega))
  right_inv j := Fin.ext (by show j.val / 128 * 128 + j.val % 128 = j.val; omega)

/-- The greedy cost of batch element `b`: the distances of its 2048 picks, added up. -/
def total (p t : Fin 8 → Fin 2048 → Fin 3 → EReal) (b : Fin 8) : EReal :=
  ∑ i ∈ Finset.range 2048, Ideal.sqrt (best (fun i j => sqd p t b (src i) j) i)

theorem best_nonneg {J : Type} [Fintype J] [DecidableEq J] (r : ℕ → J → EReal) (hr : ∀ i j, 0 ≤ r i j) (i : ℕ) :
    0 ≤ best r i :=
  Finset.le_inf fun j _ => hr i j

theorem total_nonneg (p t : Fin 8 → Fin 2048 → Fin 3 → EReal) (b : Fin 8) : 0 ≤ total p t b :=
  Finset.sum_nonneg fun i _ => sqrt_nonneg (best_nonneg _ (fun _ _ => sqd_nonneg _ _ _ _ _) i)

/-! ## Position words -/

theorem foldmin_mem {α : Type} (s : Finset α) (f : α → BitVec 32) (c : BitVec 32) :
    s.fold IntOp.minsi c f = c ∨ ∃ a ∈ s, s.fold IntOp.minsi c f = f a := by
  classical
  induction s using Finset.induction_on with
  | empty => exact .inl rfl
  | insert a s h ih =>
    rw [fold_insert h]
    unfold IntOp.minsi at ih ⊢
    split
    · exact .inr ⟨a, mem_insert_self _ _, rfl⟩
    · rcases ih with e | ⟨a', ha', e⟩
      · exact .inl e
      · exact .inr ⟨a', mem_insert_of_mem ha', e⟩

theorem foldmin_le {α : Type} (s : Finset α) (f : α → BitVec 32) (c : BitVec 32) {a : α} (ha : a ∈ s) :
    (s.fold IntOp.minsi c f).toInt ≤ (f a).toInt := by
  classical
  induction s using Finset.induction_on with
  | empty => simp at ha
  | insert a' s h ih =>
    rw [fold_insert h]
    have hm : ∀ x y : BitVec 32, (IntOp.minsi x y).toInt ≤ x.toInt ∧ (IntOp.minsi x y).toInt ≤ y.toInt := by
      intro x y
      unfold IntOp.minsi
      split
      · rename_i hh
        have := BitVec.slt_iff_toInt_lt.mp hh
        exact ⟨le_rfl, this.le⟩
      · rename_i hh
        have : ¬ x.toInt < y.toInt := fun c => hh (BitVec.slt_iff_toInt_lt.mpr c)
        exact ⟨not_lt.mp this, le_rfl⟩
    rcases mem_insert.mp ha with rfl | ha
    · exact (hm _ _).1
    · exact (hm _ _).2.trans (ih ha)

/-- The position of cell `(g, l)` as the kernel counts it. -/
def pos (g : Fin 16) (l : Fin 128) : BitVec 32 := IntOp.addi (IntOp.muli (BitVec.ofNat 32 g.val) 128#32) (BitVec.ofNat 32 l.val)

theorem pos_toNat (g : Fin 16) (l : Fin 128) : (pos g l).toNat = g.val * 128 + l.val := by
  unfold pos IntOp.addi IntOp.muli
  simp only [BitVec.toNat_add, BitVec.toNat_mul, BitVec.toNat_ofNat]
  have := g.isLt
  have := l.isLt
  omega

theorem pos_toInt (g : Fin 16) (l : Fin 128) : (pos g l).toInt = (g.val * 128 + l.val : ℕ) := by
  have := g.isLt
  have := l.isLt
  rw [BitVec.toInt_eq_toNat_of_lt (by rw [pos_toNat]; omega), pos_toNat]

theorem pos_inj {g g' : Fin 16} {l l' : Fin 128} (h : pos g l = pos g' l') : g = g' ∧ l = l' := by
  have h := congrArg BitVec.toNat h
  rw [pos_toNat, pos_toNat] at h
  have := l.isLt
  have := l'.isLt
  exact ⟨Fin.ext (by omega), Fin.ext (by omega)⟩

/-- Looking a value up in one lane finds the position of a cell that shows it. -/
theorem lookup_lane {s : Fin 16 → EReal} {v : EReal} {l : Fin 128} (h : ∃ g, s g = v) :
    ∃ g, s g = v ∧ univ.fold IntOp.minsi 2147483647#32 (fun g => if s g = v then pos g l else 2048#32) = pos g l := by
  obtain ⟨g, hg⟩ := h
  have hle := foldmin_le univ (fun g => if s g = v then pos g l else 2048#32) 2147483647#32 (mem_univ g)
  have hlt : (univ.fold IntOp.minsi 2147483647#32 (fun g => if s g = v then pos g l else 2048#32)).toInt < 2048 := by
    refine lt_of_le_of_lt hle ?_
    rw [if_pos hg, pos_toInt]
    have := g.isLt
    have := l.isLt
    omega
  rcases foldmin_mem univ (fun g => if s g = v then pos g l else 2048#32) 2147483647#32 with e | ⟨g', -, e⟩
  · rw [e] at hlt
    exact absurd hlt (by decide)
  · by_cases hv : s g' = v
    · exact ⟨g', hv, by rw [e, if_pos hv]⟩
    · rw [e, if_neg hv] at hlt
      exact absurd hlt (by decide)

/-- Looking it up in all lanes, likewise. -/
theorem lookup_all {s : Fin 16 → Fin 128 → EReal} {v : EReal} (h : ∃ g l, s g l = v) :
    ∃ g l, s g l = v ∧ univ.fold IntOp.minsi 2147483647#32 (fun l =>
      univ.fold IntOp.minsi 2147483647#32 (fun g => if s g l = v then pos g l else 2048#32)) = pos g l := by
  obtain ⟨g, l, hg⟩ := h
  obtain ⟨g₁, -, e₁⟩ := lookup_lane (l := l) (s := fun g => s g l) ⟨g, hg⟩
  have hle := foldmin_le univ (fun l => univ.fold IntOp.minsi 2147483647#32 (fun g => if s g l = v then pos g l else 2048#32))
    2147483647#32 (mem_univ l)
  rw [e₁, pos_toInt] at hle
  have hlt : (univ.fold IntOp.minsi 2147483647#32 (fun l =>
      univ.fold IntOp.minsi 2147483647#32 (fun g => if s g l = v then pos g l else 2048#32))).toInt < 2048 := by
    have := g₁.isLt
    have := l.isLt
    omega
  rcases foldmin_mem univ (fun l => univ.fold IntOp.minsi 2147483647#32 (fun g => if s g l = v then pos g l else 2048#32))
    2147483647#32 with e | ⟨l', -, e⟩
  · rw [e] at hlt
    exact absurd hlt (by decide)
  · by_cases hv : ∃ g, s g l' = v
    · obtain ⟨g', hg', e'⟩ := lookup_lane (l := l') (s := fun g => s g l') hv
      exact ⟨g', l', hg', by rw [e, e']⟩
    · rw [e] at hlt
      rcases foldmin_mem univ (fun g => if s g l' = v then pos g l' else 2048#32) 2147483647#32 with e' | ⟨g', -, e'⟩
      · rw [e'] at hlt
        exact absurd hlt (by decide)
      · rw [e', if_neg (fun c => hv ⟨g', c⟩)] at hlt
        exact absurd hlt (by decide)

/-! ## The tournament over sixteen values -/

theorem top2_16 {K : Type} [LinearOrder K] (v : Fin 16 → K) {a b : K}
    {a0 a1 a2 a3 a4 a5 a6 a7 b0 b1 b2 b3 b4 b5 b6 b7 : K}
    {c0 c1 c2 c3 d0 d1 d2 d3 : K} {e0 e1 f0 f1 : K}
    (h0 : Top2 v {0, 1} a0 b0) (h1 : Top2 v {2, 3} a1 b1) (h2 : Top2 v {4, 5} a2 b2) (h3 : Top2 v {6, 7} a3 b3)
    (h4 : Top2 v {8, 9} a4 b4) (h5 : Top2 v {10, 11} a5 b5) (h6 : Top2 v {12, 13} a6 b6) (h7 : Top2 v {14, 15} a7 b7)
    (hc0 : c0 = min a0 a1) (hd0 : d0 = min (max a0 a1) (min b0 b1))
    (hc1 : c1 = min a2 a3) (hd1 : d1 = min (max a2 a3) (min b2 b3))
    (hc2 : c2 = min a4 a5) (hd2 : d2 = min (max a4 a5) (min b4 b5))
    (hc3 : c3 = min a6 a7) (hd3 : d3 = min (max a6 a7) (min b6 b7))
    (he0 : e0 = min c0 c1) (hf0 : f0 = min (max c0 c1) (min d0 d1))
    (he1 : e1 = min c2 c3) (hf1 : f1 = min (max c2 c3) (min d2 d3))
    (ha : a = min e0 e1) (hb : b = min (max e0 e1) (min f0 f1)) : Top2 v univ a b := by
  subst hc0 hd0 hc1 hd1 hc2 hd2 hc3 hd3 he0 hf0 he1 hf1 ha hb
  have h := (((h0.merge h1 (by decide)).merge (h2.merge h3 (by decide)) (by decide)).merge
    ((h4.merge h5 (by decide)).merge (h6.merge h7 (by decide)) (by decide)) (by decide))
  have hu : (univ : Finset (Fin 16)) = ({0, 1} ∪ {2, 3} ∪ ({4, 5} ∪ {6, 7}) ∪ ({8, 9} ∪ {10, 11} ∪ ({12, 13} ∪ {14, 15}))) := by
    decide
  rw [hu]
  exact h

end Cert.Greedy

end
-- ==== Proof.KernelVal.lean ====
/-
  The kernel's loop is the greedy assignment: before each trip the lanes show the least free cost, the prepared row is the
  row masked one step early, the mask holds `⊤` at exactly the used targets, and the sum is one step behind.
-/
module

public import proofs.«01_k».proof.Proof.KernelRun
public import proofs.«01_k».proof.Proof.Ops

@[expose] public section

set_option maxRecDepth 8192
set_option maxHeartbeats 1000000

noncomputable section

namespace Cert.KernelIdeal.Hand

open Cert.KernelIdeal Cert.KernelIdeal.Gen Idealize.ShloMosaic Idealize.ShloMosaic.TcCoe Cert.Greedy

variable (x0 x1 x2 : Vec Ideal S2048x8x128 .f32) (x3 x4 x5 : Vec Ideal S16x8x128 .f32)

/-- The squared distance the kernel computes between source point `i` and the target at cell `q`. -/
def cost (b : Fin 8) (i : ℕ) (q : Fin 16 × Fin 128) : EReal :=
  ((row x0 i (ix3 0 b q.2) - x3 (ix3 q.1 b q.2)) * (row x0 i (ix3 0 b q.2) - x3 (ix3 q.1 b q.2))
    + (row x1 i (ix3 0 b q.2) - x4 (ix3 q.1 b q.2)) * (row x1 i (ix3 0 b q.2) - x4 (ix3 q.1 b q.2)))
    + (row x2 i (ix3 0 b q.2) - x5 (ix3 q.1 b q.2)) * (row x2 i (ix3 0 b q.2) - x5 (ix3 q.1 b q.2))

theorem cost_nonneg (b : Fin 8) (i : ℕ) (q : Fin 16 × Fin 128) : 0 ≤ cost x0 x1 x2 x3 x4 x5 b i q :=
  add_nonneg (add_nonneg (sq_nonneg _) (sq_nonneg _)) (sq_nonneg _)

/-! ## The payloads at an index -/

theorem next_at (k : Fin k0_t1_loop.trips) (mk : Vec Ideal S16x8x128 .f32) (g : Fin 16) (b : Fin 8) (l : Fin 128) :
    next x0 x1 x2 x3 x4 x5 k mk (ix3 g b l) = cost x0 x1 x2 x3 x4 x5 b (k.val + 1) (g, l) + mk (ix3 g b l) := by
  pointwise [next, k0_pay12, k0_pay9, k0_pay10, k0_pay11]
  rfl

theorem first_at (g : Fin 16) (b : Fin 8) (l : Fin 128) :
    first x0 x1 x2 x3 x4 x5 (ix3 g b l) = cost x0 x1 x2 x3 x4 x5 b 0 (g, l) := by
  pointwise [first, k0_pay36]
  rfl

theorem least_at (p : Vec Ideal S8x128 .f32) (b : Fin 8) :
    IsLeast (Set.range fun l => p (ix2 b l)) (k0_pay7 (F := Ideal) p (ix2 b 0) : EReal) := by
  have e : (k0_pay7 (F := Ideal) p (ix2 b 0) : EReal) = Finset.univ.fold min ⊤ (fun l => p (ix2 b l)) := by
    pointwise [k0_pay7]
    rw [ofBits_top]
  rw [e]
  exact isLeast_fold_min _

theorem mask_at (part : FVec Ideal S8x128 .f32) (mask stale : Vec Ideal S16x8x128 .f32) (g : Fin 16) (b : Fin 8) (l : Fin 128) :
    maskNext part mask stale (ix3 g b l) = if stale (ix3 g b l) = k0_pay7 part (ix2 b 0) then ⊤ else mask (ix3 g b l) := by
  pointwise [maskNext, k0_pay3, k0_pay34, k0_pay7]
  rw [ofBits_top]

theorem low_at (k : Fin k0_t1_loop.trips) (mk : Vec Ideal S16x8x128 .f32) (b : Fin 8) (l : Fin 128) :
    Top2 (fun g => next x0 x1 x2 x3 x4 x5 k mk (ix3 g b l)) Finset.univ (low1 x0 x1 x2 x3 x4 x5 k mk (ix2 b l))
      (low2 x0 x1 x2 x3 x4 x5 k mk (ix2 b l)) := by
  have h := top2_16 (fun g : Fin 16 => next x0 x1 x2 x3 x4 x5 k mk (ix3 g b l)) (Top2.pair _ (by decide))
    (Top2.pair _ (by decide)) (Top2.pair _ (by decide)) (Top2.pair _ (by decide)) (Top2.pair _ (by decide))
    (Top2.pair _ (by decide)) (Top2.pair _ (by decide)) (Top2.pair _ (by decide)) rfl rfl rfl rfl rfl rfl rfl rfl
    rfl rfl rfl rfl rfl rfl
  convert h using 1
  · pointwise [low1, k0_pay32, k0_pay13, k0_pay15, k0_pay17, k0_pay19, k0_pay21, k0_pay26, k0_pay27, k0_pay28, k0_pay29,
      k0_pay23, k0_pay24, k0_pay25, k0_pay30, k0_pay31]
    rfl
  · pointwise [low2, k0_pay33, k0_pay13, k0_pay14, k0_pay15, k0_pay16, k0_pay17, k0_pay18, k0_pay19, k0_pay20, k0_pay21,
      k0_pay22, k0_pay26, k0_pay27, k0_pay28, k0_pay29, k0_pay23, k0_pay24, k0_pay25, k0_pay30, k0_pay31]
    rfl

theorem low0_at (v : FVec Ideal S16x8x128 .f32) (b : Fin 8) (l : Fin 128) :
    ∃ p2, Top2 (fun g => v (ix3 g b l)) Finset.univ (k0_pay39 v (ix2 b l)) p2 := by
  have h := top2_16 (fun g : Fin 16 => v (ix3 g b l)) (Top2.pair _ (by decide))
    (Top2.pair _ (by decide)) (Top2.pair _ (by decide)) (Top2.pair _ (by decide)) (Top2.pair _ (by decide))
    (Top2.pair _ (by decide)) (Top2.pair _ (by decide)) (Top2.pair _ (by decide)) rfl rfl rfl rfl rfl rfl rfl rfl
    rfl rfl rfl rfl rfl rfl
  obtain ⟨e, he⟩ : ∃ e, e = k0_pay39 v (ix2 b l) := ⟨_, rfl⟩
  have e' := he
  pointwise [k0_pay39] at e'
  rw [← he, e']
  exact ⟨_, h⟩

theorem select_eq {n : ℕ} {α : Type} (a c : BitVec n) (x y : α) :
    Scalar.select (IntOp.cmpi .eq a c) x y = if a = c then x else y := by
  unfold Scalar.select IntOp.cmpi
  by_cases h : a = c
  · simp [h]
  · rw [if_neg h]
    have e : (a == c) = false := beq_eq_false_iff_ne.mpr h
    simp only [e]
    exact if_neg (by decide)

theorem choose_at (v2 : FVec Ideal S8x1 .f32) (v3 v4 : FVec Ideal S16x8x128 .f32) (v5 v6 : FVec Ideal S8x128 .f32)
    (b : Fin 8) (l : Fin 128) :
    k0_pay5 k0_pay35 v2 v3 v4 v5 v6 (ix2 b l) =
      if Finset.univ.fold IntOp.minsi 2147483647#32 (fun g => if v4 (ix3 g b l) = v5 (ix2 b l) then pos g l else 2048#32)
        = Finset.univ.fold IntOp.minsi 2147483647#32 (fun l => Finset.univ.fold IntOp.minsi 2147483647#32
            (fun g => if v3 (ix3 g b l) = v2 (ix2 b 0) then pos g l else 2048#32))
      then v6 (ix2 b l) else v5 (ix2 b l) := by
  pointwise [k0_pay5, k0_pay35]
  rw [select_eq]
  rfl

theorem acc_at (k : Fin k0_t1_loop.trips) (u v : FVec Ideal S8x1 .f32) (b : Fin 8) :
    k0_pay8 0#32 1#32 k u v (ix2 b 0) = v (ix2 b 0) + if k.val = 0 then 0 else Ideal.sqrt (u (ix2 b 0)) := by
  have hk : k.val < 2048 := Nat.lt_of_lt_of_le k.isLt k0_t1_abs.2.1
  pointwise [k0_pay8]
  congr 1
  rw [show Scalar.cmpi .eq (Scf.iv 0#32 1#32 k.val) 0#32 = IntOp.cmpi .eq (Scf.iv 0#32 1#32 k.val) 0#32 from rfl, select_eq]
  refine if_congr ?_ rfl rfl
  unfold Scf.iv
  rw [BitVec.zero_add, BitVec.mul_one, ← BitVec.toNat_inj, BitVec.toNat_ofNat, BitVec.toNat_ofNat]
  omega

theorem acc0_at (v : Vec Ideal S16x8x128 .f32) (b : Fin 8) : k0_pay1 (k0_pay40 v) (ix2 b 0) = (0 : EReal) := by
  pointwise [k0_pay1, k0_pay40]
  exact mul_zero _

theorem out_at (u v : FVec Ideal S8x1 .f32) :
    k0_pay6 u v (ix2 0 0) = Ideal.div (∑ b : Fin 8, (v (ix2 b 0) + Ideal.sqrt (u (ix2 b 0)))) ((16384 : ℝ) : EReal) := by
  pointwise [k0_pay6]
  rw [ofBits_16384]
  simp

/-! ## The loop -/

variable {x0 x1 x2 x3 x4 x5}

theorem trips_eq : k0_t1_loop.trips = 2048 := rfl

theorem state_succ {k : ℕ} (h : k < k0_t1_loop.trips) :
    (state x0 x1 x2 x3 x4 x5) (k + 1) = ((partNext x0 x1 x2 x3 x4 x5 ⟨k, h⟩ ((state x0 x1 x2 x3 x4 x5) k).1.1 ((state x0 x1 x2 x3 x4 x5) k).2.1 ((state x0 x1 x2 x3 x4 x5) k).2.2, k0_pay7 ((state x0 x1 x2 x3 x4 x5) k).1.1,
      k0_pay8 0#32 1#32 ⟨k, h⟩ ((state x0 x1 x2 x3 x4 x5) k).1.2.1 ((state x0 x1 x2 x3 x4 x5) k).1.2.2),
      maskNext ((state x0 x1 x2 x3 x4 x5) k).1.1 ((state x0 x1 x2 x3 x4 x5) k).2.1 ((state x0 x1 x2 x3 x4 x5) k).2.2, k0_pay4 (next x0 x1 x2 x3 x4 x5 ⟨k, h⟩ ((state x0 x1 x2 x3 x4 x5) k).2.1)) := by
  simp only [state, dif_pos h]

theorem state_zero : (state x0 x1 x2 x3 x4 x5) 0 = ((k0_pay39 (first x0 x1 x2 x3 x4 x5), k0_pay2 (k0_pay40 x3), k0_pay1 (k0_pay40 x3)), k0_pay37 (F := Ideal),
    k0_pay38 (first x0 x1 x2 x3 x4 x5)) := rfl

attribute [local irreducible] state

theorem kept_at (v : Vec Ideal S16x8x128 .f32) (g : Fin 16) (b : Fin 8) (l : Fin 128) :
    k0_pay4 (F := Ideal) v (ix3 g b l) = v (ix3 g b l) := by pointwise [k0_pay4]

theorem kept0_at (v : Vec Ideal S16x8x128 .f32) (g : Fin 16) (b : Fin 8) (l : Fin 128) :
    k0_pay38 (F := Ideal) v (ix3 g b l) = v (ix3 g b l) := by pointwise [k0_pay38]

theorem mask0_at (g : Fin 16) (b : Fin 8) (l : Fin 128) : k0_pay37 (F := Ideal) (ix3 g b l) = (0 : EReal) := by
  pointwise [k0_pay37]

theorem card_cells : Fintype.card (Fin 16 × Fin 128) = 2048 := by simp

/-- The invariant of the loop, in each batch element. -/
theorem loop_inv (hr : ∀ b, ∀ i < 2048, Function.Injective ((cost x0 x1 x2 x3 x4 x5) b i)) : ∀ k ≤ 2047, ∀ b : Fin 8,
    Inv ((cost x0 x1 x2 x3 x4 x5) b) k (fun l => (((state x0 x1 x2 x3 x4 x5) k).1.1 (ix2 b l) : EReal)) (fun g l => ((state x0 x1 x2 x3 x4 x5) k).2.2 (ix3 g b l))
        (fun g l => ((state x0 x1 x2 x3 x4 x5) k).2.1 (ix3 g b l) = (⊤ : EReal))
      ∧ ∀ g l, ((state x0 x1 x2 x3 x4 x5) k).2.1 (ix3 g b l) = (⊤ : EReal) ∨ ((state x0 x1 x2 x3 x4 x5) k).2.1 (ix3 g b l) = (0 : EReal)
  | 0, _, b => by
    have hz : ∀ g l, (((state x0 x1 x2 x3 x4 x5) 0).2.1 (ix3 g b l) : EReal) = 0 := fun g l => by
      rw [state_zero]
      exact mask0_at g b l
    have hf : ∀ g l, (((state x0 x1 x2 x3 x4 x5) 0).2.2 (ix3 g b l) : EReal) = first x0 x1 x2 x3 x4 x5 (ix3 g b l) := fun g l => by
      rw [state_zero]
      exact kept0_at (first x0 x1 x2 x3 x4 x5) g b l
    choose p2 hp2 using low0_at (first x0 x1 x2 x3 x4 x5) b
    refine ⟨Inv.zero (p2 := p2) (fun g l => ?_) (fun g l => ?_) (fun l => ?_), fun g l => .inr (hz g l)⟩
    · rw [hf, first_at]
    · rw [hz]; exact EReal.zero_ne_top
    · simp only [hf]
      rw [state_zero]
      exact hp2 l
  | k + 1, hk, b => by
    obtain ⟨ih, ihm⟩ := loop_inv hr k (by omega) b
    have ht : k < k0_t1_loop.trips := by rw [trips_eq]; omega
    have hs : ∀ g l, (((state x0 x1 x2 x3 x4 x5) (k + 1)).2.2 (ix3 g b l) : EReal) = next x0 x1 x2 x3 x4 x5 ⟨k, ht⟩ ((state x0 x1 x2 x3 x4 x5) k).2.1 (ix3 g b l) :=
      fun g l => by
        rw [state_succ ht]
        exact kept_at (next x0 x1 x2 x3 x4 x5 ⟨k, ht⟩ ((state x0 x1 x2 x3 x4 x5) k).2.1) g b l
    have hm : ∀ g l, (((state x0 x1 x2 x3 x4 x5) (k + 1)).2.1 (ix3 g b l) : EReal)
        = if ((state x0 x1 x2 x3 x4 x5) k).2.2 (ix3 g b l) = k0_pay7 ((state x0 x1 x2 x3 x4 x5) k).1.1 (ix2 b 0) then ⊤ else ((state x0 x1 x2 x3 x4 x5) k).2.1 (ix3 g b l) := fun g l => by
      rw [state_succ ht]
      exact mask_at _ _ _ g b l
    have hp0 : ((state x0 x1 x2 x3 x4 x5) (k + 1)).1.1 = partNext x0 x1 x2 x3 x4 x5 ⟨k, ht⟩ ((state x0 x1 x2 x3 x4 x5) k).1.1 ((state x0 x1 x2 x3 x4 x5) k).2.1 ((state x0 x1 x2 x3 x4 x5) k).2.2 := by
      rw [state_succ ht]
    have hp := fun l => choose_at (k0_pay7 ((state x0 x1 x2 x3 x4 x5) k).1.1) ((state x0 x1 x2 x3 x4 x5) k).2.2 (next x0 x1 x2 x3 x4 x5 ⟨k, ht⟩ ((state x0 x1 x2 x3 x4 x5) k).2.1)
      (low1 x0 x1 x2 x3 x4 x5 ⟨k, ht⟩ ((state x0 x1 x2 x3 x4 x5) k).2.1) (low2 x0 x1 x2 x3 x4 x5 ⟨k, ht⟩ ((state x0 x1 x2 x3 x4 x5) k).2.1) b l
    refine ⟨Inv.step card_cells (hr b) (by omega) ih (least_at _ b)
      (p1 := fun l => low1 x0 x1 x2 x3 x4 x5 ⟨k, ht⟩ ((state x0 x1 x2 x3 x4 x5) k).2.1 (ix2 b l))
      (p2 := fun l => low2 x0 x1 x2 x3 x4 x5 ⟨k, ht⟩ ((state x0 x1 x2 x3 x4 x5) k).2.1 (ix2 b l))
      (ix := pos)
      (am := Finset.univ.fold IntOp.minsi 2147483647#32 (fun l => Finset.univ.fold IntOp.minsi 2147483647#32
            (fun g => if ((state x0 x1 x2 x3 x4 x5) k).2.2 (ix3 g b l) = k0_pay7 ((state x0 x1 x2 x3 x4 x5) k).1.1 (ix2 b 0) then pos g l else 2048#32)))
      (a := fun l => Finset.univ.fold IntOp.minsi 2147483647#32 (fun g =>
        if next x0 x1 x2 x3 x4 x5 ⟨k, ht⟩ ((state x0 x1 x2 x3 x4 x5) k).2.1 (ix3 g b l) = low1 x0 x1 x2 x3 x4 x5 ⟨k, ht⟩ ((state x0 x1 x2 x3 x4 x5) k).2.1 (ix2 b l)
          then pos g l else 2048#32))
      (fun g l => ?_) (fun g l => ⟨fun h => ?_, fun h => ?_⟩) (fun l => ?_) (fun g l g' l' h => pos_inj h)
      (fun h => lookup_all h) (fun l => ?_) (fun l => ⟨fun h => ?_, fun h => ?_⟩), fun g l => ?_⟩
    · rw [hm]
      split <;> simp [*]
    · rw [hs, next_at, h]
      exact EReal.add_top_of_ne_bot (ne_of_gt (lt_of_lt_of_le EReal.bot_lt_zero (cost_nonneg _ _ _ _ _ _ _ _ _)))
    · rw [hs, next_at, (ihm g l).resolve_left h, add_zero]
    · simp only [hs]
      exact low_at _ _ _ _ _ _ _ _ b l
    · simp only [hs]
      obtain ⟨g, -, e⟩ := (low_at x0 x1 x2 x3 x4 x5 ⟨k, ht⟩ ((state x0 x1 x2 x3 x4 x5) k).2.1 b l).mem
      exact lookup_lane ⟨g, e⟩
    · rw [hp0, partNext, hp, if_pos h]
    · rw [hp0, partNext, hp, if_neg h]
    · rw [hm]
      split
      · exact .inl rfl
      · exact ihm g l

/-- The sum is one step behind. -/
theorem loop_acc (hr : ∀ b, ∀ i < 2048, Function.Injective ((cost x0 x1 x2 x3 x4 x5) b i)) (b : Fin 8) : ∀ k ≤ 2048,
    (((state x0 x1 x2 x3 x4 x5) k).1.2.2 (ix2 b 0) : EReal) + (if k = 0 then 0 else Ideal.sqrt (((state x0 x1 x2 x3 x4 x5) k).1.2.1 (ix2 b 0)))
      = ∑ t ∈ Finset.range k, Ideal.sqrt (best ((cost x0 x1 x2 x3 x4 x5) b) t)
  | 0, _ => by
    rw [if_pos rfl, add_zero, Finset.sum_range_zero]
    rw [state_zero]
    exact acc0_at x3 b
  | k + 1, hk => by
    have ht : k < k0_t1_loop.trips := by rw [trips_eq]; omega
    rw [if_neg (by omega), Finset.sum_range_succ, ← loop_acc hr b k (by omega), state_succ ht]
    congr 1
    · exact acc_at _ _ _ b
    · exact congrArg Ideal.sqrt ((least_at _ b).unique (loop_inv hr k (by omega) b).1.part)

/-- What the kernel stores. -/
theorem out_val (hr : ∀ b, ∀ i < 2048, Function.Injective ((cost x0 x1 x2 x3 x4 x5) b i)) :
    k0_pay6 ((state x0 x1 x2 x3 x4 x5) k0_t1_loop.trips).1.2.1 ((state x0 x1 x2 x3 x4 x5) k0_t1_loop.trips).1.2.2 (ix2 0 0)
      = Ideal.div (∑ b : Fin 8, ∑ t ∈ Finset.range 2048, Ideal.sqrt (best ((cost x0 x1 x2 x3 x4 x5) b) t)) ((16384 : ℝ) : EReal) := by
  rw [trips_eq, out_at]
  congr 1
  refine Finset.sum_congr rfl fun b _ => ?_
  have := loop_acc hr b 2048 le_rfl
  rwa [if_neg (by omega)] at this

end Cert.KernelIdeal.Hand
-- ==== Proof.KernelEnd.lean ====
/-
  From the kernel's windows to the clouds: each window is a whole array, the broadcast coordinates are the source
  points', the transposed ones the targets'. So the array the kernel leaves is the greedy cost's mean.
-/
module

public import proofs.«01_k».proof.Proof.KernelVal
public import Idealize.ShloMosaic.Lib.Claim

@[expose] public section

set_option maxRecDepth 8192
set_option maxHeartbeats 400000

noncomputable section

namespace Cert.KernelIdeal.Hand

open Cert.KernelIdeal Cert.KernelIdeal.Gen Idealize.ShloMosaic Idealize.ShloMosaic.TcCoe Cert.Greedy Idealize.SL.Sem

variable (m : (ℓ : Loc nD τ sig) → Buf (Elt Ideal) ℓ)

/-- The source cloud and the target cloud. -/
def src3 (c : Dev nD) (b : Fin 8) (i : Fin 2048) (a : Fin 3) : EReal := m ((c : Thread nD τ).loc main_arg0) (ix3 b i a)
def tgt3 (c : Dev nD) (b : Fin 8) (i : Fin 2048) (a : Fin 3) : EReal := m ((c : Thread nD τ).loc main_arg1) (ix3 b i a)

theorem emb0 (t : Fin cfg0.N) (j : S2048x8x128.Idx) : ((cfg0.win 0).blk t).view.emb j = j :=
  funext fun a => Fin.ext (by show 0 * _ + 1 * (j a).val = (j a).val; omega)
theorem emb1 (t : Fin cfg0.N) (j : S2048x8x128.Idx) : ((cfg0.win 1).blk t).view.emb j = j :=
  funext fun a => Fin.ext (by show 0 * _ + 1 * (j a).val = (j a).val; omega)
theorem emb2 (t : Fin cfg0.N) (j : S2048x8x128.Idx) : ((cfg0.win 2).blk t).view.emb j = j :=
  funext fun a => Fin.ext (by show 0 * _ + 1 * (j a).val = (j a).val; omega)
theorem emb3 (t : Fin cfg0.N) (j : S16x8x128.Idx) : ((cfg0.win 3).blk t).view.emb j = j :=
  funext fun a => Fin.ext (by show 0 * _ + 1 * (j a).val = (j a).val; omega)
theorem emb4 (t : Fin cfg0.N) (j : S16x8x128.Idx) : ((cfg0.win 4).blk t).view.emb j = j :=
  funext fun a => Fin.ext (by show 0 * _ + 1 * (j a).val = (j a).val; omega)
theorem emb5 (t : Fin cfg0.N) (j : S16x8x128.Idx) : ((cfg0.win 5).blk t).view.emb j = j :=
  funext fun a => Fin.ext (by show 0 * _ + 1 * (j a).val = (j a).val; omega)

theorem x0_at (c : Dev nD) (t : Fin cfg0.N) (i : Fin 2048) (b : Fin 8) (l : Fin 128) :
    (iblk m c 0 t : Vec Ideal S2048x8x128 .f32) (ix3 i b l) = src3 m c b i 0 := by
  unfold iblk
  rw [View.read_apply, emb0]
  show V m c main_v4 _ = _
  entry_read
  pointwise
  rfl

theorem x1_at (c : Dev nD) (t : Fin cfg0.N) (i : Fin 2048) (b : Fin 8) (l : Fin 128) :
    (iblk m c 1 t : Vec Ideal S2048x8x128 .f32) (ix3 i b l) = src3 m c b i 1 := by
  unfold iblk
  rw [View.read_apply, emb1]
  show V m c main_v9 _ = _
  entry_read
  pointwise
  rfl

theorem x2_at (c : Dev nD) (t : Fin cfg0.N) (i : Fin 2048) (b : Fin 8) (l : Fin 128) :
    (iblk m c 2 t : Vec Ideal S2048x8x128 .f32) (ix3 i b l) = src3 m c b i 2 := by
  unfold iblk
  rw [View.read_apply, emb2]
  show V m c main_v14 _ = _
  entry_read
  pointwise
  rfl

theorem x3_at (c : Dev nD) (t : Fin cfg0.N) (g : Fin 16) (b : Fin 8) (l : Fin 128) :
    (iblk m c 3 t : Vec Ideal S16x8x128 .f32) (ix3 g b l) = tgt3 m c b (cells (g, l)) 0 := by
  unfold iblk
  rw [View.read_apply, emb3]
  show V m c main_v18 _ = _
  entry_read
  pointwise
  rfl

theorem x4_at (c : Dev nD) (t : Fin cfg0.N) (g : Fin 16) (b : Fin 8) (l : Fin 128) :
    (iblk m c 4 t : Vec Ideal S16x8x128 .f32) (ix3 g b l) = tgt3 m c b (cells (g, l)) 1 := by
  unfold iblk
  rw [View.read_apply, emb4]
  show V m c main_v22 _ = _
  entry_read
  pointwise
  rfl

theorem x5_at (c : Dev nD) (t : Fin cfg0.N) (g : Fin 16) (b : Fin 8) (l : Fin 128) :
    (iblk m c 5 t : Vec Ideal S16x8x128 .f32) (ix3 g b l) = tgt3 m c b (cells (g, l)) 2 := by
  unfold iblk
  rw [View.read_apply, emb5]
  show V m c main_v26 _ = _
  entry_read
  pointwise
  rfl

/-- The kernel's squared distances are the clouds'. -/
theorem cost_eq (c : Dev nD) (t : Fin cfg0.N) (b : Fin 8) :
    cost (iblk m c 0 t) (iblk m c 1 t) (iblk m c 2 t) (iblk m c 3 t) (iblk m c 4 t) (iblk m c 5 t) b
      = fun i q => sqd (src3 m c) (tgt3 m c) b (src i) (cells q) := by
  funext i q
  have r0 : row (F := Ideal) (iblk m c 0 t) i (ix3 0 b q.2) = src3 m c b (src i) 0 :=
    (congrArg (iblk m c 0 t : Vec Ideal S2048x8x128 .f32) (eq_ix3 _)).trans (x0_at m c t (src i) b q.2)
  have r1 : row (F := Ideal) (iblk m c 1 t) i (ix3 0 b q.2) = src3 m c b (src i) 1 :=
    (congrArg (iblk m c 1 t : Vec Ideal S2048x8x128 .f32) (eq_ix3 _)).trans (x1_at m c t (src i) b q.2)
  have r2 : row (F := Ideal) (iblk m c 2 t) i (ix3 0 b q.2) = src3 m c b (src i) 2 :=
    (congrArg (iblk m c 2 t : Vec Ideal S2048x8x128 .f32) (eq_ix3 _)).trans (x2_at m c t (src i) b q.2)
  unfold cost sqd
  rw [r0, r1, r2, x3_at, x4_at, x5_at]

/-- The mean the kernel leaves. -/
def mean (p t : Fin 8 → Fin 2048 → Fin 3 → EReal) : Vec Ideal S1x1 .f32 :=
  fun _ => Ideal.div (∑ b, total p t b) ((16384 : ℝ) : EReal)

attribute [local irreducible] state

theorem out_gen (c : Dev nD) (arg0 : Memref sig .tc .vmem S2048x8x128 .f32) (harg0 : arg0.IsWhole) (arg1 : Memref sig .tc .vmem S2048x8x128 .f32) (harg1 : arg1.IsWhole) (arg2 : Memref sig .tc .vmem S2048x8x128 .f32) (harg2 : arg2.IsWhole) (arg3 : Memref sig .tc .vmem S16x8x128 .f32) (harg3 : arg3.IsWhole) (arg4 : Memref sig .tc .vmem S16x8x128 .f32) (harg4 : arg4.IsWhole) (arg5 : Memref sig .tc .vmem S16x8x128 .f32) (harg5 : arg5.IsWhole) (arg6 : Memref sig .tc .vmem S1x1 .f32) (harg6 : arg6.IsWhole) (arg7 : Memref sig .tc .vmem S16x8x128 .f32) (harg7 : arg7.IsWhole) (arg8 : Memref sig .tc .vmem S16x8x128 .f32) (harg8 : arg8.IsWhole) (x0 x1 x2 : Vec Ideal S2048x8x128 .f32) (x3 x4 x5 : Vec Ideal S16x8x128 .f32)
    (p t : Fin 8 → Fin 2048 → Fin 3 → EReal) (hr : ∀ b i, Function.Injective (sqd p t b i))
    (hc : ∀ b, cost x0 x1 x2 x3 x4 x5 b = fun i q => sqd p t b (src i) (cells q)) :
    out0_A_6 c arg0 harg0 arg1 harg1 arg2 harg2 arg3 harg3 arg4 harg4 arg5 harg5 arg6 harg6 arg7 harg7 arg8 harg8 x0 x1 x2 x3 x4 x5 = mean p t := by
  have h := out_val (x0 := x0) (x1 := x1) (x2 := x2) (x3 := x3) (x4 := x4) (x5 := x5) (fun b i _ => by
    rw [hc]
    exact fun q q' h => cells.injective (hr b (src i) h))
  have e : (∑ b : Fin 8, ∑ t' ∈ Finset.range 2048, Ideal.sqrt (best (cost x0 x1 x2 x3 x4 x5 b) t')) = ∑ b, total p t b :=
    Finset.sum_congr rfl fun b _ => by
      rw [hc]
      exact Finset.sum_congr rfl fun i _ => congrArg Ideal.sqrt
        (used_equiv (r := fun i j => sqd p t b (src i) j) cells i).2
  rw [e] at h
  rw [out_eq]
  funext y
  have hy : y = ix2 0 0 := by
    rw [eq_ix2 y]
    congr 1 <;> exact Subsingleton.elim _ _
  rw [hy]
  exact h

theorem stored_eq (c : Dev nD) (t : Fin cfg0.N)
    (hr : ∀ b i, Function.Injective (sqd (src3 m c) (tgt3 m c) b i)) :
    outsAt0 m c t = mean (src3 m c) (tgt3 m c) :=
  out_gen _ _ _ _ _ _ _ _ _ _ _ _ _ _ _ _ _ _ _ _ _ _ _ _ _ _ _ hr (cost_eq m c t)

theorem flushed_eq (c : Dev nD) (t : Fin cfg0.N) (hf : (cfg0.win 6).flush t = true)
    (hr : ∀ b i, Function.Injective (sqd (src3 m c) (tgt3 m c) b i)) :
    (dats m 0 c).flushed 6 t = ((cfg0.win 6).blk t).view.read (Elt Ideal) (mean (src3 m c) (tgt3 m c)) := by
  rw [Value.flushed6, stored_eq m c t hr]
  funext y
  rfl

theorem final_eq (c : Dev nD) (hr : ∀ b i, Function.Injective (sqd (src3 m c) (tgt3 m c) b i)) :
    (dats m 0 c).arrAt 6 cfg0.N = mean (src3 m c) (tgt3 m c) :=
  (dats m 0 c).arrAt_eq_of_cover 6 (mean (src3 m c) (tgt3 m c)) (fun t hf => flushed_eq m c t hf hr) fun i =>
    ⟨t0_0, by decide +kernel, by
      show i ∈ ((View.whole main_v27).slice (win0_6.rect t0_0)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-- The kernel's run leaves the greedy cost's mean, when no row of squared distances shows a value twice. -/
theorem run (ρ : Dev nD → PrngReg)
    (hr : ∀ (c : Dev nD) b i, Function.Injective (sqd (src3 m c) (tgt3 m c) b i)) :
    θ_run defs (onTc (τ := τ) (main (F := Ideal))) ⟨m, fun _ => 0, ρ⟩ fun r => ∀ c : Dev nD,
      r.2.mem ((c : Thread nD τ).loc main_v27) = mean (src3 m c) (tgt3 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c (hr c)), (h c).2⟩) (Value.run_blocks m ρ)

end Cert.KernelIdeal.Hand
-- ==== Proof.RefStep.lean ====
/-
  One step of the reference's loop, read at an index: the row with the used targets put at infinity, its least entry,
  the first position that shows it, the marks with that position added, and the costs with the least entry written in.
-/
module

public import proofs.«01_k».proof.Proof.Gen.ReferenceIdeal
public import proofs.«01_k».proof.Proof.Ops

@[expose] public section

set_option maxRecDepth 8192
set_option maxHeartbeats 400000

noncomputable section

namespace Cert.ReferenceIdeal.Hand

open Cert.ReferenceIdeal Cert.ReferenceIdeal.Gen Idealize.ShloMosaic Idealize.ShloMosaic.TcCoe Cert.Greedy
open Idealize.ShloMosaic.StableHlo

/-- The current row, the used targets at infinity. -/
def hidden (R : FVec Ideal S2048x8x2048 .f32) (n : IVec S_ 32) (u : IVec S8x2048 1) : FVec Ideal S8x2048 .f32 :=
  select u (broadcastInDim S8x2048 ![1] bcast_S2048_S8x2048_1 (broadcastInDim S2048 ![] bcast_S_S2048 (id (constant S_ .f32 0x7F800000#32))))
    (shapeCast S8x2048 (Host.dynamicSlice S1x8x2048 R (fun k => ((![n, constantI S_ 32 0#32, constantI S_ 32 0#32] : Fin 3 → IVec S_ 32) k (Shape.Idx.first h_S_)).toInt)
      sliceFits_S2048x8x2048_S1x8x2048) shapeCasts_S1x8x2048_S8x2048)

/-- Its least entry. -/
def least (h : FVec Ideal S8x2048 .f32) : FVec Ideal S8 .f32 :=
  Host.reduce FloatOps.minimumf h (constant S_ .f32 0x7F800000#32) reducesTo_S8x2048_S8_d1 h_S_

/-- The positions that show it, the others out of range. -/
def shown (h : FVec Ideal S8x2048 .f32) (v : FVec Ideal S8 .f32) : IVec S8x2048 32 :=
  select (cmpf .oeq h (broadcastInDim S8x2048 ![0, 1] bcast_S8x1_S8x2048_0_1 (broadcastInDim S8x1 ![0] bcast_S8_S8x1_0 v)))
    (broadcastInDim S8x2048 ![1] bcast_S2048_S8x2048_1 (iotaInDim S2048 32 0))
    (broadcastInDim S8x2048 ![1] bcast_S2048_S8x2048_1 (broadcastInDim S2048 ![] bcast_S_S2048 (id (constantI S_ 32 2048#32))))

/-- The first of them. -/
def firstOf (p : IVec S8x2048 32) : IVec S8 32 :=
  Host.reduce IntOp.minsi p (constantI S_ 32 2147483647#32) reducesTo_S8x2048_S8_d1 h_S_

/-- The marks with a position added. -/
def marked (u : IVec S8x2048 1) (y : IVec S8 32) : IVec S8x2048 1 :=
  ori u (cmpi .eq (broadcastInDim S8x2048 ![0, 1] bcast_S1x2048_S8x2048_0_1 (broadcastInDim S1x2048 ![1] bcast_S2048_S1x2048_1 (iotaInDim S2048 32 0)))
    (broadcastInDim S8x2048 ![0, 1] bcast_S8x1_S8x2048_0_1 (broadcastInDim S8x1 ![0] bcast_S8_S8x1_0 y)))

/-- The costs with one written in. -/
def written (x : FVec Ideal S2048x8 .f32) (n : IVec S_ 32) (v : FVec Ideal S8 .f32) : FVec Ideal S2048x8 .f32 :=
  Host.dynamicUpdateSlice x (broadcastInDim S1x8 ![1] bcast_S8_S1x8_1 v)
    (fun k => ((![n, constantI S_ 32 0#32] : Fin 2 → IVec S_ 32) k (Shape.Idx.first h_S_)).toInt) updateFits_S2048x8_S1x8

/-! ## At an index -/

theorem word_toInt (k : Fin 2048) : (BitVec.ofNat 32 k.val).toInt = (k.val : Int) := by
  have := k.isLt
  rw [BitVec.toInt_eq_toNat_cond, BitVec.toNat_ofNat]
  split <;> omega

theorem hidden_at (R : FVec Ideal S2048x8x2048 .f32) (n : IVec S_ 32) (u : IVec S8x2048 1) (k : Fin 2048)
    (hn : n = fun _ => BitVec.ofNat 32 k.val) (b : Fin 8) (j : Fin 2048) :
    hidden R n u (ix2 b j) = if u (ix2 b j) = 1#1 then ⊤ else R (ix3 k b j) := by
  subst hn
  have hk := k.isLt
  have e0 : Host.clampedStart S2048x8x2048 S1x8x2048 rfl (fun a => ((![(fun _ => BitVec.ofNat 32 k.val), constantI S_ 32 0#32, constantI S_ 32 0#32] : Fin 3 → IVec S_ 32) a (Shape.Idx.first h_S_)).toInt) 0 = k.val :=
    Host.clampedStart_of_le _ _ _ _ (word_toInt k) (by show k.val + 1 ≤ 2048; omega)
  have e1 : Host.clampedStart S2048x8x2048 S1x8x2048 rfl (fun a => ((![(fun _ => BitVec.ofNat 32 k.val), constantI S_ 32 0#32, constantI S_ 32 0#32] : Fin 3 → IVec S_ 32) a (Shape.Idx.first h_S_)).toInt) 1 = 0 :=
    Host.clampedStart_of_le _ _ _ _ rfl (by decide)
  have e2 : Host.clampedStart S2048x8x2048 S1x8x2048 rfl (fun a => ((![(fun _ => BitVec.ofNat 32 k.val), constantI S_ 32 0#32, constantI S_ 32 0#32] : Fin 3 → IVec S_ 32) a (Shape.Idx.first h_S_)).toInt) 2 = 0 :=
    Host.clampedStart_of_le _ _ _ _ rfl (by decide)
  have key : ∀ a b' c, a.val = k.val → b'.val = b.val → c.val = j.val → R (ix3 a b' c) = R (ix3 k b j) := by
    intro a b' c h h' h''; rw [Fin.ext h, Fin.ext h', Fin.ext h'']
  pointwise [hidden]
  rw [key _ _ _ e0 ((congrArg (· + b.val) e1).trans (Nat.zero_add _)) ((congrArg (· + j.val) e2).trans (Nat.zero_add _)), id, Scalar.select]
  show (if u (ix2 b j) = 1#1 then Ideal.ofBits .f32 0x7F800000#32 else _) = _
  rw [ofBits_top]

theorem written_at (x : FVec Ideal S2048x8 .f32) (n : IVec S_ 32) (v : FVec Ideal S8 .f32) (k : Fin 2048)
    (hn : n = fun _ => BitVec.ofNat 32 k.val) (i : Fin 2048) (b : Fin 8) :
    written x n v (ix2 i b) = if i = k then v (ix1 b) else x (ix2 i b) := by
  subst hn
  have hk := k.isLt
  have hi := i.isLt
  have e0 : Host.clampedStart S2048x8 S1x8 rfl (fun a => ((![(fun _ => BitVec.ofNat 32 k.val), constantI S_ 32 0#32] : Fin 2 → IVec S_ 32) a (Shape.Idx.first h_S_)).toInt) 0 = k.val :=
    Host.clampedStart_of_le _ _ _ _ (word_toInt k) (by show k.val + 1 ≤ 2048; omega)
  have e1 : Host.clampedStart S2048x8 S1x8 rfl (fun a => ((![(fun _ => BitVec.ofNat 32 k.val), constantI S_ 32 0#32] : Fin 2 → IVec S_ 32) a (Shape.Idx.first h_S_)).toInt) 1 = 0 :=
    Host.clampedStart_of_le _ _ _ _ rfl (by decide)
  have key : ∀ b', b'.val = b.val → v (ix1 b') = v (ix1 b) := fun b' h => by rw [Fin.ext h]
  pointwise [written]
  by_cases h : i = k
  · rw [if_pos h, dif_pos ⟨⟨by rw [e0, h], by rw [e0, h]; omega⟩, by rw [e1]; omega⟩]
    exact key _ (by show b.val - _ = b.val; rw [e1]; omega)
  · rw [if_neg h, dif_neg fun h' => h (Fin.ext (by have := h'.1; rw [e0] at this; omega))]

theorem least_at (h : FVec Ideal S8x2048 .f32) (b : Fin 8) :
    least h (ix1 b) = Finset.univ.fold min ⊤ (fun j : Fin 2048 => (h (ix2 b j) : EReal)) := by
  pointwise [least]
  rw [ofBits_top]

theorem shown_at (h : FVec Ideal S8x2048 .f32) (v : FVec Ideal S8 .f32) (b : Fin 8) (j : Fin 2048) :
    shown h v (ix2 b j) = if (h (ix2 b j) : EReal) = v (ix1 b) then BitVec.ofNat 32 j.val else 2048#32 := by
  pointwise [shown]
  rfl

theorem firstOf_at (p : IVec S8x2048 32) (b : Fin 8) :
    firstOf p (ix1 b) = Finset.univ.fold IntOp.minsi 2147483647#32 (fun j : Fin 2048 => p (ix2 b j)) := by
  pointwise [firstOf]

theorem marked_at (u : IVec S8x2048 1) (y : IVec S8 32) (b : Fin 8) (j : Fin 2048) :
    marked u y (ix2 b j) = 1#1 ↔ u (ix2 b j) = 1#1 ∨ BitVec.ofNat 32 j.val = y (ix1 b) := by
  have either : ∀ x y : BitVec 1, IntOp.ori x y = 1#1 ↔ x = 1#1 ∨ y = 1#1 := by decide
  pointwise [marked]
  rw [either]
  refine or_congr Iff.rfl ?_
  unfold IntOp.cmpi
  by_cases h : BitVec.ofNat 32 j.val = y (ix1 b)
  · simp [h]
  · have e : (BitVec.ofNat 32 j.val == y (ix1 b)) = false := beq_eq_false_iff_ne.mpr h
    simp only [e]
    exact iff_of_false (by decide) h

/-- The reference's distances. -/
def sides (x y : FVec Ideal S8x2048x3 .f32) : FVec Ideal S8x2048x2048x3 .f32 :=
  subf (broadcastInDim S8x2048x2048x3 ![0, 1, 2, 3] bcast_S8x2048x1x3_S8x2048x2048x3_0_1_2_3
      (broadcastInDim S8x2048x1x3 ![0, 1, 3] bcast_S8x2048x3_S8x2048x1x3_0_1_3 x))
    (broadcastInDim S8x2048x2048x3 ![0, 1, 2, 3] bcast_S8x1x2048x3_S8x2048x2048x3_0_1_2_3
      (broadcastInDim S8x1x2048x3 ![0, 2, 3] bcast_S8x2048x3_S8x1x2048x3_0_2_3 y))

theorem rows_gen (x y : FVec Ideal S8x2048x3 .f32) (i : Fin 2048) (b : Fin 8) (j : Fin 2048) :
    (transpose S2048x8x2048 [1, 0, 2] (Host.sqrt (Host.reduceAdd (mulf (sides x y) (sides x y)) (constant S_ .f32 0x00000000#32)
      reducesTo_S8x2048x2048x3_S8x2048x2048_d3 h_S_)) transposes_S8x2048x2048_S2048x8x2048_1_0_2 : FVec Ideal S2048x8x2048 .f32) (ix3 i b j)
      = Ideal.sqrt (sqd (fun b i a => x (ix3 b i a)) (fun b i a => y (ix3 b i a)) b i j) := by
  pointwise [sides]
  rw [Fin.sum_univ_three, sqd]

end Cert.ReferenceIdeal.Hand
-- ==== Proof.RefVal.lean ====
/-
  The reference's result: the loop's state before step `k` holds the costs of the first `k` picks and the targets they
  took, so the result is the mean of the picks' costs.
-/
module

public import proofs.«01_k».proof.Proof.Gen.ReferenceIdeal.Run
public import proofs.«01_k».proof.Proof.RefStep

@[expose] public section

set_option maxRecDepth 8192
set_option maxHeartbeats 400000

noncomputable section

namespace Cert.ReferenceIdeal.Hand

open Cert.ReferenceIdeal Cert.ReferenceIdeal.Gen Cert.ReferenceIdeal.Value Idealize.ShloMosaic Idealize.ShloMosaic.TcCoe Cert.Greedy Idealize.SL.Sem
open Idealize.ShloMosaic.StableHlo

/-! ## One step, one batch element -/

section Step

variable {r : ℕ → Fin 2048 → EReal} (hr : ∀ i < 2048, Function.Injective (r i)) (h0 : ∀ i j, 0 ≤ r i j)
variable {k : ℕ} (hk : k < 2048) {h : Fin 2048 → EReal} (hh : ∀ j, h j = if j ∈ used r k then ⊤ else Ideal.sqrt (r k j))

include hr h0 hk hh

theorem h_eq (j : Fin 2048) : h j = Ideal.sqrt (masked r (used r k) k j) := by
  rw [hh, masked]
  split
  · simp
  · rfl

theorem least_eq : Finset.univ.fold min ⊤ h = Ideal.sqrt (best r k) := by
  have hb := best_isLeast (free_nonempty (Fintype.card_fin 2048) hr hk)
  refine (isLeast_fold_min h).unique ⟨?_, ?_⟩
  · obtain ⟨j, e⟩ := hb.1
    exact ⟨j, by rw [h_eq hr h0 hk hh, e]⟩
  · rintro _ ⟨j, rfl⟩
    rw [h_eq hr h0 hk hh]
    exact sqrt_le (best_nonneg r h0 k) (hb.2 ⟨j, rfl⟩)

theorem shows_iff (hk' : k + 1 < 2048) (j : Fin 2048) : h j = Ideal.sqrt (best r k) ↔ j ∉ used r k ∧ r k j = best r k := by
  rw [h_eq hr h0 hk hh, ← masked_eq (best_lt_top (Fintype.card_fin 2048) hr hk')]
  refine ⟨fun e => sqrt_inj ?_ (best_nonneg r h0 k) e, fun e => by rw [e]⟩
  unfold masked
  split
  · exact le_top
  · exact h0 k j

/-- The first position that shows the least entry is the one picked. -/
theorem first_eq (hk' : k + 1 < 2048) : ∃ j, used r (k + 1) = insert j (used r k) ∧
    Finset.univ.fold IntOp.minsi 2147483647#32 (fun j : Fin 2048 => if h j = Ideal.sqrt (best r k) then BitVec.ofNat 32 j.val else 2048#32)
      = BitVec.ofNat 32 j.val := by
  obtain ⟨j, hj, ej, eu⟩ := pick (hr k hk) (free_nonempty (Fintype.card_fin 2048) hr hk)
  refine ⟨j, eu, ?_⟩
  have hs : ∀ a, h a = Ideal.sqrt (best r k) ↔ a = j := fun a => by
    rw [shows_iff hr h0 hk hh hk']
    exact ⟨fun e => hr k hk (e.2.trans ej.symm), fun e => e ▸ ⟨hj, ej⟩⟩
  simp only [hs]
  have hle := foldmin_le Finset.univ (fun a : Fin 2048 => if a = j then BitVec.ofNat 32 a.val else 2048#32) 2147483647#32 (Finset.mem_univ j)
  rw [if_pos rfl, word_toInt] at hle
  have hj2 := j.isLt
  rcases foldmin_mem Finset.univ (fun a : Fin 2048 => if a = j then BitVec.ofNat 32 a.val else 2048#32) 2147483647#32 with e | ⟨a, -, e⟩
  · rw [e, show (2147483647#32).toInt = 2147483647 from by decide] at hle
    omega
  · by_cases ha : a = j
    · rw [e, if_pos ha, ha]
    · rw [e, if_neg ha, show (2048#32).toInt = 2048 from by decide] at hle
      omega

end Step

/-! ## The loop -/

variable (p t : Fin 8 → Fin 2048 → Fin 3 → EReal)

/-- Batch element `b`'s squared distances, row after row. -/
def row (b : Fin 8) (i : ℕ) (j : Fin 2048) : EReal := sqd p t b (src i) j

/-- The state before step `k`. -/
structure Before (k : ℕ) (V : Valuation τ sig (Elt Ideal)) : Prop where
  rows : ∀ i b j, (V (Proc.devRef .tc main_v12_0) : FVec Ideal S2048x8x2048 .f32) (ix3 i b j) = Ideal.sqrt (sqd p t b i j)
  ctr : (V (Proc.devRef .tc main_v12_1) : IVec S_ 32) = fun _ => BitVec.ofNat 32 k
  marks : k < 2048 → ∀ b j, (V (Proc.devRef .tc main_v12_2) : IVec S8x2048 1) (ix2 b j) = 1#1 ↔ j ∈ used (row p t b) k
  costs : ∀ i b, i.val < k → (V (Proc.devRef .tc main_v12_3) : FVec Ideal S2048x8 .f32) (ix2 i b) = Ideal.sqrt (best (row p t b) i.val)

variable {p t} (hr : ∀ b i, Function.Injective (sqd p t b i))

include hr in
theorem Before.step {k : ℕ} (hk : k < 2048) {V : Valuation τ sig (Elt Ideal)} (h : Before p t k V) : Before p t (k + 1) (STEP V) := by
  have hinj : ∀ b, ∀ i < 2048, Function.Injective (row p t b i) := fun b i _ => hr b (src i)
  have hnn : ∀ b i j, 0 ≤ row p t b i j := fun b i j => sqd_nonneg p t b _ j
  have hh : ∀ b j, (hidden (V (Proc.devRef .tc main_v12_0)) (V (Proc.devRef .tc main_v12_1)) (V (Proc.devRef .tc main_v12_2)) (ix2 b j) : EReal)
      = if j ∈ used (row p t b) k then ⊤ else Ideal.sqrt (row p t b k j) := fun b j => by
    rw [hidden_at _ _ _ ⟨k, hk⟩ h.ctr, h.rows]
    refine if_congr (h.marks hk b j) rfl ?_
    rw [row, ← src_of ⟨k, hk⟩]
  have hl : ∀ b, (least (hidden (V (Proc.devRef .tc main_v12_0)) (V (Proc.devRef .tc main_v12_1)) (V (Proc.devRef .tc main_v12_2))) (ix1 b) : EReal)
      = Ideal.sqrt (best (row p t b) k) := fun b => by
    rw [least_at]; exact least_eq (hinj b) (hnn b) hk (hh b)
  refine ⟨fun i b j => ?_, ?_, fun hk' b j => ?_, fun i b hi => ?_⟩
  · rw [STEP_main_v12_0]; exact h.rows i b j
  · rw [STEP_main_v12_1]
    show addi (V (Proc.devRef .tc main_v12_1) : IVec S_ 32) (constantI S_ 32 1#32) = _
    rw [h.ctr]
    funext i
    show BitVec.ofNat 32 k + 1#32 = BitVec.ofNat 32 (k + 1)
    rw [BitVec.ofNat_add]
  · rw [STEP_main_v12_2]
    show marked (V (Proc.devRef .tc main_v12_2)) (firstOf (shown (hidden (V (Proc.devRef .tc main_v12_0)) (V (Proc.devRef .tc main_v12_1)) (V (Proc.devRef .tc main_v12_2)))
      (least (hidden (V (Proc.devRef .tc main_v12_0)) (V (Proc.devRef .tc main_v12_1)) (V (Proc.devRef .tc main_v12_2)))))) (ix2 b j) = 1#1 ↔ _
    obtain ⟨j₀, eu, e⟩ := first_eq (hinj b) (hnn b) hk (hh b) hk'
    rw [marked_at, firstOf_at]
    simp only [shown_at, hl]
    rw [e, eu, Finset.mem_insert, h.marks hk b j, or_comm]
    refine or_congr ⟨fun e => ?_, fun e => by rw [e]⟩ Iff.rfl
    have e := congrArg BitVec.toInt e
    rw [word_toInt, word_toInt] at e
    exact Fin.ext (by exact_mod_cast e)
  · rw [STEP_main_v12_3]
    show written (V (Proc.devRef .tc main_v12_3)) (V (Proc.devRef .tc main_v12_1)) (least (hidden (V (Proc.devRef .tc main_v12_0)) (V (Proc.devRef .tc main_v12_1))
      (V (Proc.devRef .tc main_v12_2)))) (ix2 i b) = _
    rw [written_at _ _ _ ⟨k, hk⟩ h.ctr]
    by_cases e : i = ⟨k, hk⟩
    · rw [if_pos e, hl, e]
    · rw [if_neg e]
      exact h.costs i b (by have : i.val ≠ k := fun h => e (Fin.ext h); omega)

include hr in
theorem Before.iter {V : Valuation τ sig (Elt Ideal)} (h : Before p t 0 V) : ∀ k ≤ 2048, Before p t k (STEP^[k] V)
  | 0, _ => h
  | k + 1, hk => by
    rw [Function.iterate_succ_apply']
    exact (Before.iter h k (by omega)).step hr (by omega)

/-- The mean the reference returns. -/
def mean (p t : Fin 8 → Fin 2048 → Fin 3 → EReal) : FVec Ideal S1x1 .f32 := fun _ => Ideal.div (∑ b, total p t b) ((16384 : ℝ) : EReal)

theorem out_eq {V : Valuation τ sig (Elt Ideal)} (h : Before p t 2048 V) : (out_main_v18 V : FVec Ideal S1x1 .f32) = mean p t := by
  funext i
  obtain ⟨a, b, rfl⟩ : ∃ a b, i = ix2 a b := ⟨_, _, eq_ix2 i⟩
  have hs : ∀ b, (∑ i : Fin 2048, (V (Proc.devRef .tc main_v12_3) : FVec Ideal S2048x8 .f32) (ix2 i b) : EReal) = total p t b := fun b => by
    rw [total, Finset.sum_range]
    exact Finset.sum_congr rfl fun i _ => h.costs i b i.isLt
  rw [mean, ← mean_eq _ (total_nonneg p t)]
  simp only [← hs, ← ofBits_2048, ← ofBits_8]
  generalize hx : (V (Proc.devRef .tc main_v12_3) : FVec Ideal S2048x8 .f32) = x
  pointwise [out_main_v18]
  rw [hx]

/-! ## Its entry -/

variable (m : (ℓ : Loc nD τ sig) → Buf (Elt Ideal) ℓ)

/-- The source points. -/
def src3 (c : Dev nD) (b : Fin 8) (i : Fin 2048) (a : Fin 3) : EReal := (m ((c.tc : Thread nD τ).loc main_arg0) : FVec Ideal S8x2048x3 .f32) (ix3 b i a)

/-- The target points. -/
def tgt3 (c : Dev nD) (b : Fin 8) (i : Fin 2048) (a : Fin 3) : EReal := (m ((c.tc : Thread nD τ).loc main_arg1) : FVec Ideal S8x2048x3 .f32) (ix3 b i a)

theorem entry_marks (c : Dev nD) (b : Fin 8) (j : Fin 2048) :
    (entryContents preI m c (Proc.devRef .tc main_v12_2) : IVec S8x2048 1) (ix2 b j) = 0#1 := by
  simp only [entryContents, afterL_cons, afterL_nil]
  after_reads_simp
  rfl

theorem entry_rows (c : Dev nD) (i : Fin 2048) (b : Fin 8) (j : Fin 2048) :
    (entryContents preI m c (Proc.devRef .tc main_v12_0) : FVec Ideal S2048x8x2048 .f32) (ix3 i b j) = Ideal.sqrt (sqd (src3 m c) (tgt3 m c) b i j) := by
  simp only [entryContents, afterL_cons, afterL_nil]
  after_reads_simp
  exact rows_gen _ _ i b j

theorem entry (c : Dev nD) : Before (src3 m c) (tgt3 m c) 0 (entryContents preI m c) :=
  ⟨entry_rows m c, ctr_entry m c, fun _ b j =>
    iff_of_false (fun h => absurd ((entry_marks m c b j).symm.trans h) (by decide : ¬ (0#1 : BitVec 1) = 1#1)) (by simp [used]), fun _ _ h => absurd h (Nat.not_lt_zero _)⟩

variable (ρ : Dev nD → PrngReg)

/-- The reference's run leaves the mean in its result and keeps its arguments. -/
theorem run (hr : ∀ (c : Dev nD) b i, Function.Injective (sqd (src3 m c) (tgt3 m c) b i)) :
    θ_run (defs (F := Ideal)) (onTc (τ := τ) (main (F := Ideal))) ⟨m, fun _ => 0, ρ⟩ fun r => ∀ c : Dev nD,
      r.2.mem ((c.tc : Thread nD τ).loc main_v18) = mean (src3 m c) (tgt3 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq ((entry m c).iter (hr c) 2048 le_rfl)), (h c).2⟩)
    (Value.run (F := Ideal) m ρ)

end Cert.ReferenceIdeal.Hand
-- ==== Proof.NoTie.lean ====
/-
  The precondition read: a row that shows no equal neighbours once sorted holds distinct squared distances.
-/
module

public import proofs.«01_k».proof.Pre_no_tie
public import proofs.«01_k».proof.Proof.Ops
public import Idealize.ShloMosaic.Lib.SortFacts
public import Idealize.ShloMosaic.Lib.Decide

@[expose] public section

set_option maxRecDepth 8192
set_option maxHeartbeats 400000

noncomputable section

namespace Cert.Pre_no_tie.Hand

open Cert.Pre_no_tie Idealize.ShloMosaic Cert.Greedy

theorem facts : Facts where
  bcast_S8x2048x3_S8x2048x1x3_0_1_3 := by decide
  bcast_S8x2048x3_S8x1x2048x3_0_2_3 := by decide
  bcast_S8x2048x1x3_S8x2048x2048x3_0_1_2_3 := by decide
  bcast_S8x1x2048x3_S8x2048x2048x3_0_1_2_3 := by decide
  reducesTo_S8x2048x2048x3_S8x2048x2048_d3 := by decide
  h_S_ := by decide
  slices_S8x2048x2048_S8x2048x2047_0_0_1 := by decide
  slices_S8x2048x2048_S8x2048x2047_0_0_0 := by decide

/-- The sort's order is the order of the values. -/
theorem before_iff (a b : EReal) : comparator_f32_d2 (F := Ideal) a b = 1#1 ↔ a < b := by
  have z : Ideal.ofBits .f32 0x00000000#32 = 0 := by simp [Ideal.ofBits, Ideal.ieee]
  have canon : ∀ x : EReal, (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) : Ideal .f32) = x := fun x => by
    have h1 : FloatOps.cmpf (F := Ideal) (φ := .f32) .une x x = 0#1 := by
      show BitVec.ofBool (decide (x ≠ x)) = 0#1
      simp
    rw [h1]
    show (if (0#1 : BitVec 1) = 1#1 then _ else _) = _
    rw [if_neg (by decide)]
    show (if BitVec.ofBool (decide (x = Ideal.ofBits .f32 0x00000000#32)) = 1#1 then Ideal.ofBits .f32 0x00000000#32 else x) = x
    rw [z]
    by_cases h : x = 0
    · simp [h]
    · simp [h]
  show FloatOps.cmpfTotal (F := Ideal) (φ := .f32) .lt
    (Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32))
        (FloatOps.ofBits (F := Ideal) .f32 0x00000000#32) a))
    (Scalar.select (FloatOps.cmpf (F := Ideal) (φ := .f32) .une b b) (FloatOps.ofBits (F := Ideal) .f32 0x7FC00000#32)
      (Scalar.select (FloatOps.cmpf (F := Ideal) (φ := .f32) .oeq b (FloatOps.ofBits (F := Ideal) .f32 0x00000000#32))
        (FloatOps.ofBits (F := Ideal) .f32 0x00000000#32) b)) = 1#1 ↔ a < b
  rw [canon, canon]
  show BitVec.ofBool (decide (a < b)) = 1#1 ↔ a < b
  by_cases h : a < b <;> simp [h]

/-- A row sorted without equal neighbours has no equal entries. -/
theorem injective_of_neighbours {n : ℕ} (f : Fin (n + 1) → EReal) (B : Fin (n + 1) → Fin (n + 1) → Bool)
    (hB : ∀ a b, B a b = true ↔ f a < f b)
    (h : ∀ k : Fin n, f (sortedFrom B k.succ) ≠ f (sortedFrom B k.castSucc)) : Function.Injective f := by
  have hmono : StrictMono fun k => f (sortedFrom B k) := by
    refine Fin.strictMono_iff_lt_succ.mpr fun k => lt_of_le_of_ne ?_ (h k).symm
    have hs := sortedFrom_noInversion B B
      (fun a b e => by
        rw [← Bool.not_eq_true, hB]
        exact ((hB a b).mp e).not_gt)
      (fun _ _ e => e)
      (fun a b c e e' => by
        rw [← Bool.not_eq_true, hB, not_lt] at e e' ⊢
        exact e'.trans e)
      k.castSucc k.succ k.castSucc_lt_succ
    rw [← Bool.not_eq_true, hB, not_lt] at hs
    exact hs
  intro a b e
  obtain ⟨i, rfl⟩ := sortedFrom_surjective B a
  obtain ⟨j, rfl⟩ := sortedFrom_surjective B b
  rw [hmono.injective e]

variable [Facts]
open Facts

/-- The squared distances, as the precondition writes them. -/
def sq (x y : FVec Ideal S8x2048x3 .f32) : FVec Ideal S8x2048x2048 .f32 :=
  Host.reduceAdd (mulf
    (subf (broadcastInDim S8x2048x2048x3 ![0, 1, 2, 3] bcast_S8x2048x1x3_S8x2048x2048x3_0_1_2_3
        (broadcastInDim S8x2048x1x3 ![0, 1, 3] bcast_S8x2048x3_S8x2048x1x3_0_1_3 x))
      (broadcastInDim S8x2048x2048x3 ![0, 1, 2, 3] bcast_S8x1x2048x3_S8x2048x2048x3_0_1_2_3
        (broadcastInDim S8x1x2048x3 ![0, 2, 3] bcast_S8x2048x3_S8x1x2048x3_0_2_3 y)))
    (subf (broadcastInDim S8x2048x2048x3 ![0, 1, 2, 3] bcast_S8x2048x1x3_S8x2048x2048x3_0_1_2_3
        (broadcastInDim S8x2048x1x3 ![0, 1, 3] bcast_S8x2048x3_S8x2048x1x3_0_1_3 x))
      (broadcastInDim S8x2048x2048x3 ![0, 1, 2, 3] bcast_S8x1x2048x3_S8x2048x2048x3_0_1_2_3
        (broadcastInDim S8x1x2048x3 ![0, 2, 3] bcast_S8x2048x3_S8x1x2048x3_0_2_3 y))))
    (constant S_ .f32 0x00000000#32) reducesTo_S8x2048x2048x3_S8x2048x2048_d3 h_S_

theorem sq_at (x y : FVec Ideal S8x2048x3 .f32) (b : Fin 8) (i j : Fin 2048) :
    sq x y (ix3 b i j) = sqd (fun b i a => x (ix3 b i a)) (fun b i a => y (ix3 b i a)) b i j := by
  pointwise [sq]
  rw [Fin.sum_univ_three, sqd]

/-- The order a row is sorted by. -/
def order (z : FVec Ideal S8x2048x2048 .f32) (b : Fin 8) (i : Fin 2048) (k k' : Fin 2048) : Bool :=
  comparator_f32_d2 (F := Ideal) (z (ix3 b i k)) (z (ix3 b i k')) == 1#1

theorem sorted_at (z : FVec Ideal S8x2048x2048 .f32) (b : Fin 8) (i k : Fin 2048) :
    fn_sort (F := Ideal) z (ix3 b i k) = z (ix3 b i (sortedFrom (order z b i) k)) := by
  have e : ∀ (hd : 2 < S8x2048x2048.rank) (k' : Fin (S8x2048x2048.size ⟨2, hd⟩)), (ix3 b i k : S8x2048x2048.Idx).along ⟨2, hd⟩ k' = ix3 b i k' :=
    fun hd k' => by
      funext a
      fin_cases a <;> rfl
  unfold fn_sort order
  unfold Host.sort
  simp only [dif_pos (show 2 < S8x2048x2048.rank by decide), e]
  rfl

/-- Under the precondition every row holds distinct squared distances. -/
theorem distinct (x y : FVec Ideal S8x2048x3 .f32) (h : fn (F := Ideal) x y = fun _ => 1#1) (b : Fin 8) (i : Fin 2048) :
    Function.Injective (sqd (fun b i a => x (ix3 b i a)) (fun b i a => y (ix3 b i a)) b i) := by
  have hn : ∀ k : Fin 2047, fn_sort (F := Ideal) (sq x y) (ix3 b i k.succ) ≠ fn_sort (F := Ideal) (sq x y) (ix3 b i k.castSucc) := fun k => by
    have h1 := congrFun h (ix3 b i k)
    have h2 : FloatOps.cmpf (F := Ideal) (φ := .f32) .une (extractStridedSlice S8x2048x2047 ![0, 0, 1] (fn_sort (F := Ideal) (sq x y)) slices_S8x2048x2048_S8x2048x2047_0_0_1 (ix3 b i k))
      (extractStridedSlice S8x2048x2047 ![0, 0, 0] (fn_sort (F := Ideal) (sq x y)) slices_S8x2048x2048_S8x2048x2047_0_0_0 (ix3 b i k)) = 1#1 := h1
    generalize fn_sort (F := Ideal) (sq x y) = z at h2 ⊢
    pointwise at h2
    have e1 : (⟨1 + k.val, by omega⟩ : Fin 2048) = k.succ := Fin.ext (Nat.add_comm 1 k.val)
    rw [e1] at h2
    intro e
    have h3 : BitVec.ofBool (decide ((z (ix3 b i k.castSucc) : EReal) ≠ z (ix3 b i k.castSucc))) = 1#1 := by rw [e] at h2; exact h2
    rw [decide_eq_false (fun h => h rfl)] at h3
    exact absurd h3 (by decide)
  have hf : (fun k => (sq x y (ix3 b i k) : EReal)) = sqd (fun b i a => x (ix3 b i a)) (fun b i a => y (ix3 b i a)) b i :=
    funext fun k => sq_at x y b i k
  rw [← hf]
  refine injective_of_neighbours (n := 2047) _ (order (sq x y) b i) (fun a b' => ?_) fun k => ?_
  · rw [order, beq_iff_eq]
    exact before_iff _ _
  · have := hn k
    rw [sorted_at, sorted_at] at this
    exact this

end Cert.Pre_no_tie.Hand
-- ==== Proof.lean ====
/- The proof of the certificate's claim: every program runs, ends and leaves its arguments and semaphores as they were, and the
   kernel's result is the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Packed
public import proofs.«01_k».proof.Proof.Gen.Packed.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelEnd
public import proofs.«01_k».proof.Proof.RefVal
public import proofs.«01_k».proof.Proof.NoTie
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run leaves the arguments as they were, and it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Kernel and reference return the same mean. -/
theorem value : Cert.algebraic_KernelIdeal_ReferenceIdeal_pre_no_tie (hKernelIdeal := Cert.KernelIdeal.Gen.facts)
    (hReferenceIdeal := Cert.ReferenceIdeal.Gen.facts) (hPre_no_tie := Cert.Pre_no_tie.Hand.facts) := fun m g m' g' hp hm => by
  have hk : ∀ c b i, Function.Injective (Cert.Greedy.sqd (Cert.KernelIdeal.Hand.src3 m c) (Cert.KernelIdeal.Hand.tgt3 m c) b i) :=
    fun c b i => @Cert.Pre_no_tie.Hand.distinct Cert.Pre_no_tie.Hand.facts _ _ (hp c) b i
  have hs : ∀ c, Cert.ReferenceIdeal.Hand.src3 m' c = Cert.KernelIdeal.Hand.src3 m c := fun c => by
    funext b i a
    exact congrFun (hm c).1 (ix3 b i a)
  have ht : ∀ c, Cert.ReferenceIdeal.Hand.tgt3 m' c = Cert.KernelIdeal.Hand.tgt3 m c := fun c => by
    funext b i a
    exact congrFun (hm c).2 (ix3 b i a)
  refine ⟨fun c => Cert.KernelIdeal.Hand.mean (Cert.KernelIdeal.Hand.src3 m c) (Cert.KernelIdeal.Hand.tgt3 m c), Cert.KernelIdeal.Hand.run m g hk, ?_⟩
  refine (θ_run Cert.ReferenceIdeal.defs _ _).mono (fun r h c => ⟨(h c).1.trans ?_, (h c).2⟩)
    (Cert.ReferenceIdeal.Hand.run m' g' fun c b i => by rw [hs, ht]; exact hk c b i)
  rw [hs, ht]
  rfl

theorem claim : Cert.Claim := ⟨Cert.Kernel.Gen.facts, Cert.KernelIdeal.Gen.facts, Cert.ReferenceIdeal.Gen.facts, Cert.Packed.Gen.facts, Cert.Pre_no_tie.Hand.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, fun m ρ _ => Cert.Packed.Gen.frame m ρ, trivial, value⟩

end Cert.Proof

end
